-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 128, 32, 64]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 128, 32, 64]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v40) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x2048 : Shape := ⟨2, ![512, 2048]⟩
abbrev S2x128x4x64 : Shape := ⟨4, ![2, 128, 4, 64]⟩
abbrev S2048x512 : Shape := ⟨2, ![2048, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2x128x4x64 : S_.BroadcastsInDim S2x128x4x64 (![] : Fin 0 → Fin S2x128x4x64.rank)
  reducesTo_S2x128x4x64_S_d0_1_2_3 : S2x128x4x64.ReducesTo [0, 1, 2, 3] S_

variable [Facts]

def fn {F : FTy → Type} [FloatOps F] (main_arg0 : FVec F S2x128x512 .bf16) (main_arg1 : FVec F S512x2048 .bf16) (main_arg2 : FVec F S2x128x4x64 .bf16) (main_arg3 : FVec F S2x128x4x64 .bf16) (main_arg4 : FVec F S2048x512 .bf16) : IVec S_ 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x2048 .bf16 := Host.absf main_arg1
  let main_cst_0 : FVec F S_ .bf16 := constant S_ .bf16 0x7F80#16
  let main_v5 : FVec F S512x2048 .bf16 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2x128x4x64 .bf16 := Host.absf main_arg2
  let main_cst_2 : FVec F S_ .bf16 := constant S_ .bf16 0x7F80#16
  let main_v10 : FVec F S2x128x4x64 .bf16 := broadcastInDim S2x128x4x64 ![] bcast_S_S2x128x4x64 main_cst_2
  let main_v11 : IVec S2x128x4x64 1 := cmpf .olt main_v9 main_v10
  let main_c_3 : IVec S_ 1 := constantI S_ 1 1#1
  let main_v12 : IVec S_ 1 := (fun x v => Host.reduce IntOp.andi x v reducesTo_S2x128x4x64_S_d0_1_2_3 h_S_) main_v11 main_c_3
  let main_v13 : IVec S_ 1 := andi main_v8 main_v12
  main_v13
-- ==== Pre_finite_ReferenceIdeal.lean ====
abbrev S2x128x512 : Shape := ⟨3, ![2, 128, 512]⟩
abbrev S512x2048 : Shape := ⟨2, ![512, 2048]⟩
abbrev S2x128x32x64 : Shape := ⟨4, ![2, 128, 32, 64]⟩
abbrev S2048x512 : Shape := ⟨2, ![2048, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2x128x32x64 : S_.BroadcastsInDim S2x128x32x64 (![] : Fin 0 → Fin S2x128x32x64.rank)
  reducesTo_S2x128x32x64_S_d0_1_2_3 : S2x128x32x64.ReducesTo [0, 1, 2, 3] S_

variable [Facts]

def fn {F : FTy → Type} [FloatOps F] (main_arg0 : FVec F S2x128x512 .bf16) (main_arg1 : FVec F S512x2048 .bf16) (main_arg2 : FVec F S2x128x32x64 .bf16) (main_arg3 : FVec F S2x128x32x64 .bf16) (main_arg4 : FVec F S2048x512 .bf16) : IVec S_ 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x2048 .bf16 := Host.absf main_arg1
  let main_cst_0 : FVec F S_ .bf16 := constant S_ .bf16 0x7F80#16
  let main_v5 : FVec F S512x2048 .bf16 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2x128x32x64 .bf16 := Host.absf main_arg2
  let main_cst_2 : FVec F S_ .bf16 := constant S_ .bf16 0x7F80#16
  let main_v10 : FVec F S2x128x32x64 .bf16 := broadcastInDim S2x128x32x64 ![] bcast_S_S2x128x32x64 main_cst_2
  let main_v11 : IVec S2x128x32x64 1 := cmpf .olt main_v9 main_v10
  let main_c_3 : IVec S_ 1 := constantI S_ 1 1#1
  let main_v12 : IVec S_ 1 := (fun x v => Host.reduce IntOp.andi x v reducesTo_S2x128x32x64_S_d0_1_2_3 h_S_) main_v11 main_c_3
  let main_v13 : IVec S_ 1 := andi main_v8 main_v12
  main_v13
-- ==== Kernel.lean ====
abbrev S2x128x512 : Shape := ⟨3, ![2, 128, 512]⟩
abbrev S512x2048 : Shape := ⟨2, ![512, 2048]⟩
abbrev S2x128x4x64 : Shape := ⟨4, ![2, 128, 4, 64]⟩
abbrev S2048x512 : Shape := ⟨2, ![2048, 512]⟩
abbrev S_ : Shape := ⟨0, ![]⟩
abbrev S512x256 : Shape := ⟨2, ![512, 256]⟩
abbrev S256x512 : Shape := ⟨2, ![256, 512]⟩
abbrev S2x128x256 : Shape := ⟨3, ![2, 128, 256]⟩
abbrev S3x256x512 : Shape := ⟨3, ![3, 256, 512]⟩
abbrev S3x3 : Shape := ⟨2, ![3, 3]⟩
abbrev S256x256 : Shape := ⟨2, ![256, 256]⟩
abbrev S1x128x256 : Shape := ⟨3, ![1, 128, 256]⟩
abbrev S128x256 : Shape := ⟨2, ![128, 256]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S88x512 : Shape := ⟨2, ![88, 512]⟩
abbrev S1x88x512 : Shape := ⟨3, ![1, 88, 512]⟩
abbrev S1x1 : Shape := ⟨2, ![1, 1]⟩
abbrev S80x512 : Shape := ⟨2, ![80, 512]⟩
abbrev S1x80x512 : Shape := ⟨3, ![1, 80, 512]⟩

abbrev nBuf : Space → Nat
  | .hbm => 32
  | .vmem => 8
  | .smem => 0
  | _ => 0

abbrev bufTy : (tb : Table) → Fin (tcTables nBuf tb) → BufTy
  | .hbm, ⟨0, _⟩ => ⟨S2x128x512, .bf16⟩
  | .hbm, ⟨1, _⟩ => ⟨S512x2048, .bf16⟩
  | .hbm, ⟨2, _⟩ => ⟨S2x128x4x64, .bf16⟩
  | .hbm, ⟨3, _⟩ => ⟨S2x128x4x64, .bf16⟩
  | .hbm, ⟨4, _⟩ => ⟨S2048x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S512x256, .bf16⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S256x512, .bf16⟩
  | .hbm, ⟨29, _⟩ => ⟨S2x128x256, .bf16⟩
  | .hbm, ⟨30, _⟩ => ⟨S2x128x256, .bf16⟩
  | .hbm, ⟨31, _⟩ => ⟨S2x128x512, .bf16⟩
  | .local _ .vmem, ⟨0, _⟩ => ⟨S2x128x512, .bf16⟩
  | .local _ .vmem, ⟨1, _⟩ => ⟨S512x256, .bf16⟩
  | .local _ .vmem, ⟨2, _⟩ => ⟨S2x128x256, .bf16⟩
  | .local _ .vmem, ⟨3, _⟩ => ⟨S2x128x256, .bf16⟩
  | .local _ .vmem, ⟨4, _⟩ => ⟨S256x512, .bf16⟩
  | .local _ .vmem, ⟨5, _⟩ => ⟨S2x128x512, .bf16⟩
  | .local _ .vmem, ⟨6, _⟩ => ⟨S3x256x512, .bf16⟩
  | .local _ .vmem, ⟨7, _⟩ => ⟨S3x256x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_7 : BitVec 32 := 1#32
  let v11 : BitVec 32 := Scalar.muli v5 c1_i32_7
  let v12 : BitVec 32 := Scalar.addi c0_i32_8 v11
  v12.toNat
def k0_dev4 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_77 : BitVec 32 := 1#32
  let v167 : BitVec 32 := Scalar.muli v3 c1_i32_77
  let v168 : BitVec 32 := Scalar.addi c0_i32_78 v167
  v168.toNat
def k0_dev5 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_91 : BitVec 32 := 1#32
  let v182 : BitVec 32 := Scalar.muli v4 c1_i32_91
  let v183 : BitVec 32 := Scalar.addi c0_i32_92 v182
  v183.toNat
def k0_dev6 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_103 : BitVec 32 := 1#32
  let v197 : BitVec 32 := Scalar.muli v5 c1_i32_103
  let v198 : BitVec 32 := Scalar.addi c0_i32_104 v197
  v198.toNat
def k0_dev7 (d0 : Dev nD) : Nat :=
  let c0_i32_196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_195 : BitVec 32 := 1#32
  let v270 : BitVec 32 := Scalar.muli v4 c1_i32_195
  let v271 : BitVec 32 := Scalar.addi c0_i32_196 v270
  v271.toNat
def k0_dev8 (d0 : Dev nD) : Nat :=
  let c0_i32_211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_210 : BitVec 32 := 1#32
  let v285 : BitVec 32 := Scalar.muli v5 c1_i32_210
  let v286 : BitVec 32 := Scalar.addi c0_i32_211 v285
  v286.toNat
def k0_dev9 (d0 : Dev nD) : Nat :=
  let c0_i32_226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_225 : BitVec 32 := 1#32
  let v300 : BitVec 32 := Scalar.muli v3 c1_i32_225
  let v301 : BitVec 32 := Scalar.addi c0_i32_226 v300
  v301.toNat
def k0_dev10 (d0 : Dev nD) : Nat :=
  let c0_i32_318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_317 : BitVec 32 := 1#32
  let v373 : BitVec 32 := Scalar.muli v5 c1_i32_317
  let v374 : BitVec 32 := Scalar.addi c0_i32_318 v373
  v374.toNat
def k0_dev11 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_332 : BitVec 32 := 1#32
  let v388 : BitVec 32 := Scalar.muli v3 c1_i32_332
  let v389 : BitVec 32 := Scalar.addi c0_i32_333 v388
  v389.toNat
def k0_dev12 (d0 : Dev nD) : Nat :=
  let c0_i32_348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_347 : BitVec 32 := 1#32
  let v403 : BitVec 32 := Scalar.muli v4 c1_i32_347
  let v404 : BitVec 32 := Scalar.addi c0_i32_348 v403
  v404.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x2048 : Shape := ⟨2, ![512, 2048]⟩
abbrev S2x128x32x64 : Shape := ⟨4, ![2, 128, 32, 64]⟩
abbrev S2048x512 : Shape := ⟨2, ![2048, 512]⟩
abbrev S2x128x2048 : Shape := ⟨3, ![2, 128, 2048]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2x32x128x128 : Shape := ⟨4, ![2, 32, 128, 128]⟩
abbrev S1x1x128x128 : Shape := ⟨4, ![1, 1, 128, 128]⟩
abbrev S2x32x128 : Shape := ⟨3, ![2, 32, 128]⟩
abbrev S2x32x128x1 : Shape := ⟨4, ![2, 32, 128, 1]⟩
abbrev S1x1x128x1 : Shape := ⟨4, ![1, 1, 128, 1]⟩
abbrev S2x32x64x128 : Shape := ⟨4, ![2, 32, 64, 128]⟩

abbrev nBuf : Space → Nat
  | .hbm => 63
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x2048, .bf16⟩
  | .hbm, ⟨2, _⟩ => ⟨S2x128x32x64, .bf16⟩
  | .hbm, ⟨3, _⟩ => ⟨S2x128x32x64, .bf16⟩
  | .hbm, ⟨4, _⟩ => ⟨S2048x512, .bf16⟩
  | .hbm, ⟨5, _⟩ => ⟨S2x128x2048, .f32⟩
  | .hbm, ⟨6, _⟩ => ⟨S2x128x2048, .bf16⟩
  | .hbm, ⟨7, _⟩ => ⟨S2x128x32x64, .bf16⟩
  | .hbm, ⟨8, _⟩ => ⟨S128, .i32⟩
  | .hbm, ⟨9, _⟩ => ⟨S128x1, .i32⟩
  | .hbm, ⟨10, _⟩ => ⟨S128, .i32⟩
  | .hbm, ⟨11, _⟩ => ⟨S1x128, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i1⟩
  | .hbm, ⟨19, _⟩ => ⟨S2x32x128x128, .f32⟩
  | .hbm, ⟨20, _⟩ => ⟨S2x32x128x128, .bf16⟩
  | .hbm, ⟨21, _⟩ => ⟨S2x32x128x128, .f32⟩
  | .hbm, ⟨22, _⟩ => ⟨S_, .f32⟩
  | .hbm, ⟨23, _⟩ => ⟨S2x32x128x128, .f32⟩
  | .hbm, ⟨24, _⟩ => ⟨S2x32x128x128, .f32⟩
  | .hbm, ⟨25, _⟩ => ⟨S1x1x128x128, .i1⟩
  | .hbm, ⟨26, _⟩ => ⟨S_, .f32⟩
  | .hbm, ⟨27, _⟩ => ⟨S_, .f32⟩
  | .hbm, ⟨28, _⟩ => ⟨S2x32x128x128, .i1⟩
  | .hbm, ⟨29, _⟩ => ⟨S2x32x128x128, .f32⟩
  | .hbm, ⟨30, _⟩ => ⟨S2x32x128x128, .f32⟩
  | .hbm, ⟨31, _⟩ => ⟨S_, .f32⟩
  | .hbm, ⟨32, _⟩ => ⟨S2x32x128, .f32⟩
  | .hbm, ⟨33, _⟩ => ⟨S2x32x128x1, .f32⟩
  | .hbm, ⟨34, _⟩ => ⟨S2x32x128x128, .f32⟩
  | .hbm, ⟨35, _⟩ => ⟨S2x32x128x128, .f32⟩
  | .hbm, ⟨36, _⟩ => ⟨S2x32x128x128, .f32⟩
  | .hbm, ⟨37, _⟩ => ⟨S_, .i1⟩
  | .hbm, ⟨38, _⟩ => ⟨S128, .i1⟩
  | .hbm, ⟨39, _⟩ => ⟨S1x1x128x1, .i1⟩
  | .hbm, ⟨40, _⟩ => ⟨S_, .f32⟩
  | .hbm, ⟨41, _⟩ => ⟨S2x32x128, .f32⟩
  | .hbm, ⟨42, _⟩ => ⟨S2x32x128x1, .f32⟩
  | .hbm, ⟨43, _⟩ => ⟨S_, .f32⟩
  | .hbm, ⟨44, _⟩ => ⟨S_, .f32⟩
  | .hbm, ⟨45, _⟩ => ⟨S2x32x128x1, .i1⟩
  | .hbm, ⟨46, _⟩ => ⟨S2x32x128x1, .f32⟩
  | .hbm, ⟨47, _⟩ => ⟨S2x32x128x1, .f32⟩
  | .hbm, ⟨48, _⟩ => ⟨S2x32x128x128, .f32⟩
  | .hbm, ⟨49, _⟩ => ⟨S2x32x128x128, .f32⟩
  | .hbm, ⟨50, _⟩ => ⟨S1x1x128x1, .i1⟩
  | .hbm, ⟨51, _⟩ => ⟨S_, .f32⟩
  | .hbm, ⟨52, _⟩ => ⟨S_, .f32⟩
  | .hbm, ⟨53, _⟩ => ⟨S2x32x128x128, .i1⟩
  | .hbm, ⟨54, _⟩ => ⟨S2x32x128x128, .f32⟩
  | .hbm, ⟨55, _⟩ => ⟨S2x32x128x128, .f32⟩
  | .hbm, ⟨56, _⟩ => ⟨S2x128x32x64, .f32⟩
  | .hbm, ⟨57, _⟩ => ⟨S2x32x64x128, .f32⟩
  | .hbm, ⟨58, _⟩ => ⟨S2x128x32x64, .f32⟩
  | .hbm, ⟨59, _⟩ => ⟨S2x128x2048, .f32⟩
  | .hbm, ⟨60, _⟩ => ⟨S2048x512, .f32⟩
  | .hbm, ⟨61, _⟩ => ⟨S2x128x512, .f32⟩
  | .hbm, ⟨62, _⟩ => ⟨S2x128x512, .bf16⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩

abbrev nD : Nat := 1
abbrev τ : Topo := Topo.v7x

variable {F : FTy → Type} [FloatOps F]
-- ==== Proof.Mesh.lean ====
/-
The mesh and the addresses of the exchange: which device each step talks to, which rows of the two
scratch buffers a slot is, and which semaphores belong to it.
-/
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdealProof

open Cert.KernelIdeal Cert.KernelIdeal.Gen
open Idealize.ShloMosaic
open Idealize.ShloMosaic.TcCoe

/-! ## Devices -/

/-- The partner of device `c` along axis `k` of the three-dimensional exchange: the device whose number
    differs from `c`'s by the bits of 1, 3 or 4. -/
def peer (k : Fin 3) (c : Dev nD) : Dev nD :=
  ⟨(c.val ^^^ (if k = 0 then 1 else if k = 1 then 3 else 4)) % 8, Nat.mod_lt _ (by decide)⟩

/-- Partners are mutual. -/
theorem peer_peer (k : Fin 3) (c : Dev nD) : peer k (peer k c) = c := by revert k c; decide

/-- Along one axis the partners pair the devices up. -/
def peerEquiv (k : Fin 3) : Dev nD ≃ Dev nD := ⟨peer k, peer k, peer_peer k, peer_peer k⟩

theorem dev1_eq (c : Dev nD) : (⟨k0_dev1 c, k0_dev1_lt c⟩ : Dev nD) = peer 0 c := by revert c; decide
theorem dev2_eq (c : Dev nD) : (⟨k0_dev2 c, k0_dev2_lt c⟩ : Dev nD) = peer 1 c := by revert c; decide
theorem dev3_eq (c : Dev nD) : (⟨k0_dev3 c, k0_dev3_lt c⟩ : Dev nD) = peer 2 c := by revert c; decide
theorem dev4_eq (c : Dev nD) : (⟨k0_dev4 c, k0_dev4_lt c⟩ : Dev nD) = peer 0 c := by revert c; decide
theorem dev5_eq (c : Dev nD) : (⟨k0_dev5 c, k0_dev5_lt c⟩ : Dev nD) = peer 1 c := by revert c; decide
theorem dev6_eq (c : Dev nD) : (⟨k0_dev6 c, k0_dev6_lt c⟩ : Dev nD) = peer 2 c := by revert c; decide
theorem dev7_eq (c : Dev nD) : (⟨k0_dev7 c, k0_dev7_lt c⟩ : Dev nD) = peer 1 c := by revert c; decide
theorem dev8_eq (c : Dev nD) : (⟨k0_dev8 c, k0_dev8_lt c⟩ : Dev nD) = peer 2 c := by revert c; decide
theorem dev9_eq (c : Dev nD) : (⟨k0_dev9 c, k0_dev9_lt c⟩ : Dev nD) = peer 0 c := by revert c; decide
theorem dev10_eq (c : Dev nD) : (⟨k0_dev10 c, k0_dev10_lt c⟩ : Dev nD) = peer 2 c := by revert c; decide
theorem dev11_eq (c : Dev nD) : (⟨k0_dev11 c, k0_dev11_lt c⟩ : Dev nD) = peer 0 c := by revert c; decide
theorem dev12_eq (c : Dev nD) : (⟨k0_dev12 c, k0_dev12_lt c⟩ : Dev nD) = peer 1 c := by revert c; decide

/-! ## Slots: one exchange of the kernel is a step and a chunk of rows -/

/-- A slot: the step (of three) and the chunk of rows (of three). -/
abbrev Slot : Type := Fin 3 × Fin 3

/-- The axis along which a slot's exchange runs. -/
def ax (x : Slot) : Fin 3 := x.1 + x.2

/-- The chunk a row of the 256 belongs to: 88, 88 and 80 rows. -/
def chunk (r : ℕ) : Fin 3 := if r < 88 then 0 else if r < 176 then 1 else 2

/-- The elements of a scratch buffer that a slot occupies. -/
def slotSet (x : Slot) : Finset S3x256x512.Idx :=
  Finset.univ.filter fun i => (i 0).val = x.1.val ∧ chunk (i 1).val = x.2

theorem mem_slotSet {x : Slot} {i : S3x256x512.Idx} : i ∈ slotSet x ↔ (i 0).val = x.1.val ∧ chunk (i 1).val = x.2 := by
  simp [slotSet]

/-- Two slots share no element. -/
theorem slotSet_disjoint {x y : Slot} (h : x ≠ y) : Disjoint (slotSet x) (slotSet y) := by
  rw [Finset.disjoint_left]
  intro i hx hy
  rw [mem_slotSet] at hx hy
  exact h (Prod.ext (Fin.ext (hx.1.symm.trans hy.1)) (hx.2.symm.trans hy.2))

/-- The slot an element of a scratch buffer lies in. -/
def slotAt (i : S3x256x512.Idx) : Slot := (⟨(i 0).val, (i 0).isLt⟩, chunk (i 1).val)

theorem mem_slotSet_slotAt (i : S3x256x512.Idx) : i ∈ slotSet (slotAt i) := mem_slotSet.mpr ⟨rfl, rfl⟩

/-- The slots cover a scratch buffer. -/
theorem slotSet_cover : Finset.univ.biUnion slotSet = Finset.univ :=
  Finset.eq_univ_iff_forall.mpr fun i => Finset.mem_biUnion.mpr ⟨slotAt i, Finset.mem_univ _, mem_slotSet_slotAt i⟩

/-- A rectangle of a scratch buffer — one step, `rn` rows from `r0`, all columns — is a slot, when its rows are the
    slot's chunk. -/
theorem rect_set {s r0 rn : ℕ} {inb} (x : Slot) (hs : s = x.1.val)
    (hr : ∀ r, r < 256 → ((r0 ≤ r ∧ r < r0 + rn) ↔ chunk r = x.2)) :
    (Rect.unit (s := S3x256x512) ![s, r0, 0] ![1, rn, 512] inb).set = slotSet x := by
  ext i
  rw [Rect.mem_set_unit, mem_slotSet, ← hr (i 1).val (i 1).isLt]
  have h2 : (i 2).val < 512 := (i 2).isLt
  constructor
  · intro h
    have h0 := h 0; have h1 := h 1
    simp at h0 h1
    exact ⟨by omega, h1.1, h1.2⟩
  · rintro ⟨h0, h1, h3⟩ a
    fin_cases a
    · simp; omega
    · simp; omega
    · simpa using h2

theorem rows0 (r : ℕ) (_ : r < 256) : (0 ≤ r ∧ r < 0 + 88) ↔ chunk r = 0 := by
  unfold chunk; split <;> rename_i h
  · simp [h]
  · split <;> simp <;> omega
theorem rows1 (r : ℕ) (_ : r < 256) : (88 ≤ r ∧ r < 88 + 88) ↔ chunk r = 1 := by
  unfold chunk; split <;> rename_i h
  · simp; omega
  · split <;> simp <;> omega
theorem rows2 (r : ℕ) (_ : r < 256) : (176 ≤ r ∧ r < 176 + 80) ↔ chunk r = 2 := by
  unfold chunk; split <;> rename_i h
  · simp; omega
  · split <;> simp <;> omega

/-! ## Semaphores -/

/-- The barrier semaphore. -/
abbrev barS : Sem sig := (SemArray.scalar (sig.barrier 0 rfl) : Sems sig S_).sem

/-- The semaphore a slot's departure is counted on. -/
def sendS (x : Slot) : DmaSem sig := ⟨6 + (3 * x.1.val + x.2.val), by have := x.1.isLt; have := x.2.isLt; show _ < 24; omega⟩
/-- The semaphore a slot's arrival is counted on. -/
def recvS (x : Slot) : DmaSem sig := ⟨15 + (3 * x.1.val + x.2.val), by have := x.1.isLt; have := x.2.isLt; show _ < 24; omega⟩

abbrev barCell (c : Dev nD) : GSem nD τ sig := ((c : Thread nD τ), .reg barS)
abbrev sendCell (c : Dev nD) (x : Slot) : GSem nD τ sig := ((c : Thread nD τ), .dma (sendS x))
abbrev recvCell (c : Dev nD) (x : Slot) : GSem nD τ sig := ((c : Thread nD τ), .dma (recvS x))

/-- What a semaphore is for. -/
inductive Kind where
  | bar | send (x : Slot) | recv (x : Slot) | other
  deriving DecidableEq

/-- The slot of a number below nine. -/
def slotNo (n : ℕ) : Slot := (⟨n / 3 % 3, Nat.mod_lt _ (by decide)⟩, ⟨n % 3, Nat.mod_lt _ (by decide)⟩)

/-- What each semaphore is for. -/
def kind : SemLoc sig → Kind
  | .reg _ => .bar
  | .dma q => if q.val < 6 then .other else if q.val < 15 then .send (slotNo (q.val - 6)) else .recv (slotNo (q.val - 15))

theorem kind_bar : kind (.reg barS) = .bar := rfl
theorem kind_send (x : Slot) : kind (.dma (sendS x)) = .send x := by revert x; decide
theorem kind_recv (x : Slot) : kind (.dma (recvS x)) = .recv x := by revert x; decide

theorem sendS_injective : Function.Injective sendS := fun x y h => by
  have := congrArg (fun q => kind (.dma q)) h
  simp only [kind_send, Kind.send.injEq] at this; exact this
theorem recvS_injective : Function.Injective recvS := fun x y h => by
  have := congrArg (fun q => kind (.dma q)) h
  simp only [kind_recv, Kind.recv.injEq] at this; exact this

/-! ## The windows of the scratch buffers -/

/-- A window of the sending buffer. -/
abbrev sendWin (r : Rect S3x256x512) (hr : ∀ a, r.stride a = 1) (s' : Shape) (sq : r.shape.Squeezes s') :
    Memref sig .tc .vmem s' .bf16 := ((Memref.whole cc0_scratch0).slice r hr).squeeze s' sq
/-- A window of the receiving buffer. -/
abbrev recvWin (r : Rect S3x256x512) (hr : ∀ a, r.stride a = 1) (s' : Shape) (sq : r.shape.Squeezes s') :
    Memref sig .tc .vmem s' .bf16 := ((Memref.whole cc0_scratch1).slice r hr).squeeze s' sq

theorem sendWin_set (r : Rect S3x256x512) (hr) (s' : Shape) (sq) : ((sendWin r hr s' sq).view.set : Finset S3x256x512.Idx) = r.set :=
  (View.set_reshape _ _).trans (View.set_slice_whole cc0_scratch0 r)
theorem recvWin_set (r : Rect S3x256x512) (hr) (s' : Shape) (sq) : ((recvWin r hr s' sq).view.set : Finset S3x256x512.Idx) = r.set :=
  (View.set_reshape _ _).trans (View.set_slice_whole cc0_scratch1 r)
theorem sendAcc_set (r : Rect S3x256x512) : (((Memref.whole cc0_scratch0).access r : View sig .tc _ _ _).set : Finset S3x256x512.Idx) = r.set :=
  View.set_slice_whole cc0_scratch0 r
theorem recvAcc_set (r : Rect S3x256x512) : (((Memref.whole cc0_scratch1).access r : View sig .tc _ _ _).set : Finset S3x256x512.Idx) = r.set :=
  View.set_slice_whole cc0_scratch1 r

section Contents
variable {Val : EltTy → Type}

/-- A store through a rectangle leaves, on the rectangle, what was stored. -/
theorem store_on (r : Rect S3x256x512) (f : (cc0_scratch0 : Ref sig .tc).ty.Contents Val) (w : r.shape.Idx → Val .bf16)
    (W : S3x256x512.Idx → Val .bf16) (hw : ∀ j, w j = W (r.emb j)) :
    ∀ i ∈ r.set, ((Memref.whole cc0_scratch0).access r : View sig .tc _ _ _).write Val f w Finset.univ i = W i := by
  intro i hi
  rw [← sendAcc_set] at hi
  obtain ⟨j, -, rfl⟩ := Finset.mem_map.mp hi
  rw [View.write_emb_of_mem _ _ (Finset.mem_univ j)]
  exact hw j

/-- A copy between windows at the same place leaves, on the window, the sender's contents. -/
theorem copy_on (r : Rect S3x256x512) (hr) (s' : Shape) (sq) (fd : (cc0_scratch1 : Ref sig .tc).ty.Contents Val)
    (fs : (cc0_scratch0 : Ref sig .tc).ty.Contents Val) :
    ∀ i ∈ r.set, (recvWin r hr s' sq).view.write Val fd ((sendWin r hr s' sq).view.read Val fs) Finset.univ i = fs i := by
  intro i hi
  rw [← recvWin_set r hr s' sq] at hi
  obtain ⟨j, -, rfl⟩ := Finset.mem_map.mp hi
  rw [View.write_emb_of_mem _ _ (Finset.mem_univ j)]
  rfl

end Contents

end Cert.KernelIdealProof
end
-- ==== Proof.Contents.lean ====
/-
What the exchange computes, at any float values: the running sum on each device after each step, what a device
puts in its sending buffer, and what it finds in its receiving buffer.
-/
module

public import proofs.«01_k».proof.Proof.Mesh
public import Idealize.ShloMosaic.Lib.Pointwise

@[expose] public section

set_option maxRecDepth 16384

noncomputable section

namespace Cert.KernelIdealProof

open Cert.KernelIdeal Cert.KernelIdeal.Gen
open Idealize.ShloMosaic
open Idealize.ShloMosaic.TcCoe

variable {F : FTy → Type} [FloatOps F]

/-- A sum as it travels: rounded to sixteen bits. -/
def wire (a : F .f32) : F .bf16 := FloatOps.truncf .bf16 bitsLt_bf16_f32 a
/-- A travelled value added to a sum. -/
def addWire (a : F .f32) (b : F .bf16) : F .f32 := FloatOps.addf a (FloatOps.extf .f32 bitsLt_bf16_f32 b)

variable (P : Dev nD → FVec F S256x512 .f32)

/-- The running sum of device `c` after `s` steps, from the partial products `P`: each step adds, chunk by chunk, the
    sum of the partner along the slot's axis, as it travelled. -/
def acc : ℕ → Dev nD → FVec F S256x512 .f32
  | 0, c => P c
  | s + 1, c => fun i => addWire (acc s c i) (wire (acc s (peer (ax (Fin.ofNat 3 s, chunk (i 0).val)) c) i))

theorem acc_zero (c : Dev nD) : acc P 0 c = P c := rfl
theorem acc_succ (s : ℕ) (c : Dev nD) (i : S256x512.Idx) :
    acc P (s + 1) c i = addWire (acc P s c i) (wire (acc P s (peer (ax (Fin.ofNat 3 s, chunk (i 0).val)) c) i)) := rfl

attribute [irreducible] acc

/-- What device `c` has put in its sending buffer when it has sent everything: at each step, its running sum. -/
def sent (c : Dev nD) : S3x256x512.Idx → F .bf16 :=
  fun i => wire (acc P (i 0).val c (ix2 (n0 := 256) (n1 := 512) (i 1) (i 2)))

/-- What device `c` has in its receiving buffer when everything has arrived: in each slot, what its partner sent. -/
def landed (c : Dev nD) : S3x256x512.Idx → F .bf16 := fun i => sent P (peer (ax (slotAt i)) c) i

theorem landed_on (c : Dev nD) (x : Slot) : ∀ i ∈ slotSet x, landed P c i = sent P (peer (ax x) c) i := by
  intro i hi
  have : slotAt i = x := by
    rw [mem_slotSet] at hi
    exact Prod.ext (Fin.ext hi.1) hi.2
  unfold landed; rw [this]

/-- The result of device `c`: its final sum, rounded, in the output's shape. -/
def out (c : Dev nD) : FVec F S2x128x512 .bf16 := truncf .bf16 (shapeCast S2x128x512 (acc P 3 c) shapeCasts_S256x512_S2x128x512) bitsLt_bf16_f32

/-! ## What is stored for the partner -/

/-- The 88 rows stored at step `s` are, where they are put, the sending buffer's. -/
theorem store88 (s : ℕ) (c : Dev nD) (r0 : ℕ) (h) (inb) (j : S1x88x512.Idx) :
    shapeCast S1x88x512 (truncf .bf16 (extractStridedSlice S88x512 ![r0, 0] (acc P s c) h) bitsLt_bf16_f32) shapeCasts_S88x512_S1x88x512 j
      = sent P c ((Rect.unit (s := S3x256x512) ![s, r0, 0] S1x88x512.size inb).emb j) := by
  idx_vars j
  pointwise
  unfold sent wire
  have e0 : ((Rect.unit (s := S3x256x512) ![s, r0, 0] ![1, 88, 512] inb).emb (ix3 j0 j1 j2) 0).val = s := by
    rw [Rect.emb_apply]; simp
  rw [e0]
  congr 2
  funext a; fin_cases a
  · apply Fin.ext; simp [Rect.emb_apply]
  · apply Fin.ext; simp [Rect.emb_apply]

/-- The 80 rows stored at step `s` are, where they are put, the sending buffer's. -/
theorem store80 (s : ℕ) (c : Dev nD) (r0 : ℕ) (h) (inb) (j : S1x80x512.Idx) :
    shapeCast S1x80x512 (truncf .bf16 (extractStridedSlice S80x512 ![r0, 0] (acc P s c) h) bitsLt_bf16_f32) shapeCasts_S80x512_S1x80x512 j
      = sent P c ((Rect.unit (s := S3x256x512) ![s, r0, 0] S1x80x512.size inb).emb j) := by
  idx_vars j
  pointwise
  unfold sent wire
  have e0 : ((Rect.unit (s := S3x256x512) ![s, r0, 0] ![1, 80, 512] inb).emb (ix3 j0 j1 j2) 0).val = s := by
    rw [Rect.emb_apply]; simp
  rw [e0]
  congr 2
  funext a; fin_cases a
  · apply Fin.ext; simp [Rect.emb_apply]
  · apply Fin.ext; simp [Rect.emb_apply]

/-! ## What is added of what arrived -/

/-- The receiving buffer at an element, by its coordinates. -/
theorem landed_at (c : Dev nD) (s r l : ℕ) (hs : s < 3) (hr : r < 256) (hl : l < 512) (i : S3x256x512.Idx)
    (h0 : (i 0).val = s) (h1 : (i 1).val = r) (h2 : (i 2).val = l) :
    landed P c i = wire (acc P s (peer (ax (Fin.ofNat 3 s, chunk r)) c) (ix2 (n0 := 256) (n1 := 512) ⟨r, hr⟩ ⟨l, hl⟩)) := by
  subst h0 h1 h2
  have e : slotAt i = (Fin.ofNat 3 (i 0).val, chunk (i 1).val) := by
    unfold slotAt
    exact Prod.ext (Fin.ext (Nat.mod_eq_of_lt hs).symm) rfl
  unfold landed sent
  rw [e]
  rfl

/-- One element of 88 rows of a sum with 88 travelled rows added. -/
theorem piece88 (X : FVec F S256x512 .f32) (v : Vec F S1x88x512 .bf16) (r0 : ℕ) (h) (hr : r0 + 88 ≤ 256) (j0 : Fin 88) (j1 : Fin 512) :
    addf (extractStridedSlice S88x512 ![r0, 0] X h) (extf .f32 (shapeCast S88x512 v shapeCasts_S1x88x512_S88x512) bitsLt_bf16_f32) (ix2 j0 j1)
      = addWire (X (ix2 (n0 := 256) (n1 := 512) ⟨r0 + j0.val, by omega⟩ j1)) (v (ix3 0 j0 j1)) := by
  pointwise
  rfl

/-- The 88 rows of the sum after a step: those before it, with what the slot's partner sent. -/
theorem add88 (s : ℕ) (c : Dev nD) (r0 : ℕ) (h) (inb) (hs : s < 3) (hr : r0 + 88 ≤ 256) (j0 : Fin 88) (j1 : Fin 512) :
    addf (extractStridedSlice S88x512 ![r0, 0] (acc P s c) h) (extf .f32 (shapeCast S88x512
        (fun j => landed P c ((Rect.unit (s := S3x256x512) ![s, r0, 0] S1x88x512.size inb).emb j)) shapeCasts_S1x88x512_S88x512) bitsLt_bf16_f32) (ix2 j0 j1)
      = acc P (s + 1) c (ix2 (n0 := 256) (n1 := 512) ⟨r0 + j0.val, by omega⟩ j1) := by
  rw [piece88 _ _ _ _ hr, landed_at P c s (r0 + j0.val) j1.val hs (by omega) j1.isLt _ (by rw [Rect.emb_apply]; simp) (by rw [Rect.emb_apply]; simp)
    (by rw [Rect.emb_apply]; simp), acc_succ]
  rfl

/-- One element of 80 rows of a sum with 80 travelled rows added. -/
theorem piece80 (X : FVec F S256x512 .f32) (v : Vec F S1x80x512 .bf16) (r0 : ℕ) (h) (hr : r0 + 80 ≤ 256) (j0 : Fin 80) (j1 : Fin 512) :
    addf (extractStridedSlice S80x512 ![r0, 0] X h) (extf .f32 (shapeCast S80x512 v shapeCasts_S1x80x512_S80x512) bitsLt_bf16_f32) (ix2 j0 j1)
      = addWire (X (ix2 (n0 := 256) (n1 := 512) ⟨r0 + j0.val, by omega⟩ j1)) (v (ix3 0 j0 j1)) := by
  pointwise
  rfl

/-- The 80 rows of the sum after a step: those before it, with what the slot's partner sent. -/
theorem add80 (s : ℕ) (c : Dev nD) (r0 : ℕ) (h) (inb) (hs : s < 3) (hr : r0 + 80 ≤ 256) (j0 : Fin 80) (j1 : Fin 512) :
    addf (extractStridedSlice S80x512 ![r0, 0] (acc P s c) h) (extf .f32 (shapeCast S80x512
        (fun j => landed P c ((Rect.unit (s := S3x256x512) ![s, r0, 0] S1x80x512.size inb).emb j)) shapeCasts_S1x80x512_S80x512) bitsLt_bf16_f32) (ix2 j0 j1)
      = acc P (s + 1) c (ix2 (n0 := 256) (n1 := 512) ⟨r0 + j0.val, by omega⟩ j1) := by
  rw [piece80 _ _ _ _ hr, landed_at P c s (r0 + j0.val) j1.val hs (by omega) j1.isLt _ (by rw [Rect.emb_apply]; simp) (by rw [Rect.emb_apply]; simp)
    (by rw [Rect.emb_apply]; simp), acc_succ]
  rfl

/-- Three pieces of rows that are an array's, put together, are the array. -/
theorem concat_rows {α : Type} (X : S256x512.Idx → α) (a b : S88x512.Idx → α) (d : S80x512.Idx → α)
    (ha : ∀ (j0 : Fin 88) (j1 : Fin 512), a (ix2 j0 j1) = X (ix2 (n0 := 256) (n1 := 512) ⟨0 + j0.val, by omega⟩ j1))
    (hb : ∀ (j0 : Fin 88) (j1 : Fin 512), b (ix2 j0 j1) = X (ix2 (n0 := 256) (n1 := 512) ⟨88 + j0.val, by omega⟩ j1))
    (hd : ∀ (j0 : Fin 80) (j1 : Fin 512), d (ix2 j0 j1) = X (ix2 (n0 := 256) (n1 := 512) ⟨176 + j0.val, by omega⟩ j1)) :
    concatenate S256x512 0 [⟨S88x512, a⟩, ⟨S88x512, b⟩, ⟨S80x512, d⟩] concatenates_S88x512_S88x512_S80x512_S256x512_d0 = X := by
  funext j
  idx_vars j
  pointwise
  split
  · rw [ha]; congr 2; exact Fin.ext (by simp)
  · split
    · rw [hb]; congr 2; exact Fin.ext (by simp; omega)
    · rw [hd]; congr 2; exact Fin.ext (by simp; omega)

/-! ## The sums of the body -/

section Steps
variable (c : Dev nD)

/-- What the body loads of the receiving buffer: a slot of what arrived. -/
abbrev arrived (s r0 : ℕ) (size : Fin 3 → ℕ) (inb) : (Rect.unit (s := S3x256x512) ![s, r0, 0] size inb).shape.Idx → F .bf16 :=
  fun j => landed P c ((Rect.unit (s := S3x256x512) ![s, r0, 0] size inb).emb j)

/-- The sum after the first step. -/
theorem step1 :
    k0_pay28 (k0_pay24 (acc P 0 c) (arrived P c 0 0 S1x88x512.size inb_S3x256x512_S1x88x512_0_0_0))
      (k0_pay25 (acc P 0 c) (arrived P c 0 88 S1x88x512.size inb_S3x256x512_S1x88x512_0_88_0)) (k0_pay26 (acc P 0 c))
      (k0_pay27 (arrived P c 0 176 S1x80x512.size inb_S3x256x512_S1x80x512_0_176_0)) = acc P 1 c :=
  concat_rows _ _ _ _ (add88 P 0 c 0 _ _ (by omega) (by omega)) (add88 P 0 c 88 _ _ (by omega) (by omega)) (add80 P 0 c 176 slices_S256x512_o176_0_S80x512 _ (by omega) (by omega))

/-- The sum after the second step. -/
theorem step2 :
    k0_pay33 (acc P 1 c) (k0_pay32 (acc P 1 c) (arrived P c 1 0 S1x88x512.size inb_S3x256x512_S1x88x512_1_0_0))
      (arrived P c 1 88 S1x88x512.size inb_S3x256x512_S1x88x512_1_88_0)
      (arrived P c 1 176 S1x80x512.size inb_S3x256x512_S1x80x512_1_176_0) = acc P 2 c :=
  concat_rows _ _ _ _ (add88 P 1 c 0 _ _ (by omega) (by omega)) (add88 P 1 c 88 _ _ (by omega) (by omega)) (add80 P 1 c 176 _ _ (by omega) (by omega))

/-- The result, from the sum after the third step. -/
theorem step3 :
    k0_pay38 (acc P 2 c) (k0_pay37 (acc P 2 c) (arrived P c 2 0 S1x88x512.size inb_S3x256x512_S1x88x512_2_0_0))
      (arrived P c 2 88 S1x88x512.size inb_S3x256x512_S1x88x512_2_88_0)
      (arrived P c 2 176 S1x80x512.size inb_S3x256x512_S1x80x512_2_176_0) = out P c :=
  congrArg (fun X : FVec F S256x512 .f32 => truncf .bf16 (shapeCast S2x128x512 X shapeCasts_S256x512_S2x128x512) bitsLt_bf16_f32)
    (concat_rows _ _ _ _ (add88 P 2 c 0 _ _ (by omega) (by omega)) (add88 P 2 c 88 _ _ (by omega) (by omega)) (add80 P 2 c 176 _ _ (by omega) (by omega)))

end Steps

end Cert.KernelIdealProof
end
-- ==== Proof.Schedule.lean ====
/-
The protocol: for each semaphore, who pays it, how much, and what the payment hands over; what each device owes
when it starts; and why no wait can be stuck.

A device's barrier semaphore is paid one unit by each of its three partners; each partner hands over the three
places of its receiving buffer that this device will write. A slot's departure semaphore is paid by the device's own
copy and gives the sent rows back; a slot's arrival semaphore is paid by the partner's copy and gives the rows that
arrived.
-/
module

public import proofs.«01_k».proof.Proof.Contents

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (P : Dev nD → FVec F S256x512 .f32)

/-- Device `c`'s slot of its sending buffer, holding `f` there. -/
def sendPts (c : Dev nD) (x : Slot) (f : S3x256x512.Idx → F .bf16) : sProp 𝕄 :=
  ((c : Thread nD τ).loc cc0_scratch0) ↦[(slotSet x : Finset (Idx ((c : Thread nD τ).loc cc0_scratch0)))]{fullShare} (f : Buf (Elt F) ((c : Thread nD τ).loc cc0_scratch0))
/-- Device `c`'s slot of its receiving buffer, holding `f` there. -/
def recvPts (c : Dev nD) (x : Slot) (f : S3x256x512.Idx → F .bf16) : sProp 𝕄 :=
  ((c : Thread nD τ).loc cc0_scratch1) ↦[(slotSet x : Finset (Idx ((c : Thread nD τ).loc cc0_scratch1)))]{fullShare} (f : Buf (Elt F) ((c : Thread nD τ).loc cc0_scratch1))

instance sendPts_storable (c : Dev nD) (x : Slot) (f) : BI.Storable (upEmb : UEmb _ 𝕄) (sendPts (F := F) c x f) := by unfold sendPts; infer_instance
instance recvPts_storable (c : Dev nD) (x : Slot) (f) : BI.Storable (upEmb : UEmb _ 𝕄) (recvPts (F := F) c x f) := by unfold recvPts; infer_instance

/-- A place of device `c`'s receiving buffer that may be written, its arrival semaphore at its first round. -/
def ready (c : Dev nD) (x : Slot) : sProp 𝕄 := iprop((∃ f, recvPts c x f) ∗ reached ER (recvCell c x) 0)

instance ready_storable (c : Dev nD) (x : Slot) : BI.Storable (upEmb : UEmb _ 𝕄) (ready (F := F) c x) := by unfold ready; infer_instance

/-- What the partner along axis `k` hands device `c` at the barrier: the places of the partner's receiving buffer whose
    slots run along that axis. -/
def barPay (c : Dev nD) (k : Fin 3) : sProp 𝕄 := bigSep Finset.univ fun s : Fin 3 => ready (peer k c) (s, k - s)

/-- The size a slot's copy counts as: 88 or 80 rows. -/
def N (x : Slot) : ℕ := if x.2 = 2 then 2560 else 2816
theorem N_pos (x : Slot) : 0 < N x := by unfold N; split <;> decide

/-! ## The schedule -/

/-- What the payment of duty `d` of cell `g` hands over. -/
def payOf (g : GSem nD τ sig) (d : Fin 3) : sProp 𝕄 :=
  match kind g.2 with
  | .bar => barPay g.1.1 d
  | .send x => sendPts g.1.1 x (sent P g.1.1)
  | .recv x => recvPts g.1.1 x (landed P g.1.1)
  | .other => iprop(emp)

/-- The duties of a cell, in its one round. -/
def dutiesOf (g : GSem nD τ sig) : Finset (Fin 3) :=
  if g.1.2 = .tc then (match kind g.2 with | .bar => Finset.univ | .send _ => {0} | .recv _ => {0} | .other => ∅) else ∅

/-- The units of a duty. -/
def amountOf (g : GSem nD τ sig) : ℕ := match kind g.2 with | .send x => N x | .recv x => N x | _ => 1

/-- The exchange's schedule: one round per cell. -/
def Rd : Rounds.Schedule (GSem nD τ sig) (Fin 3) 𝕄 where
  duties g r := if r = 0 then dutiesOf g else ∅
  unitless _ := False
  amount g _ _ := amountOf g
  payload g _ d := payOf P g d
  amount_pos g _ _ _ := by
    unfold amountOf
    split
    · exact N_pos _
    · exact N_pos _
    · exact Nat.one_pos

instance Rd_payload_storable (g : GSem nD τ sig) (r : ℕ) (d : Fin 3) :
    BI.Storable (upEmb : UEmb _ 𝕄) ((Rd (F := F) P).payload g r d) := by
  show BI.Storable upEmb (payOf P g d)
  unfold payOf barPay
  split <;> infer_instance

section Sched
variable (c : Dev nD) (x : Slot)

theorem duties_bar : (Rd (F := F) P).duties (barCell c) 0 = Finset.univ := by
  show (if (0 : ℕ) = 0 then dutiesOf (barCell c) else ∅) = _
  rw [if_pos rfl]; unfold dutiesOf; rw [if_pos rfl, kind_bar]
theorem duties_send : (Rd (F := F) P).duties (sendCell c x) 0 = {0} := by
  show (if (0 : ℕ) = 0 then dutiesOf (sendCell c x) else ∅) = _
  rw [if_pos rfl]; unfold dutiesOf; rw [if_pos rfl, kind_send]
theorem duties_recv : (Rd (F := F) P).duties (recvCell c x) 0 = {0} := by
  show (if (0 : ℕ) = 0 then dutiesOf (recvCell c x) else ∅) = _
  rw [if_pos rfl]; unfold dutiesOf; rw [if_pos rfl, kind_recv]
theorem duties_later (g : GSem nD τ sig) : ∀ r, 1 ≤ r → (Rd (F := F) P).duties g r = ∅ :=
  fun r hr => if_neg (by omega)

theorem amount_bar (r : ℕ) (d : Fin 3) : (Rd (F := F) P).amount (barCell c) r d = 1 := by
  show amountOf (barCell c) = 1; unfold amountOf; rw [kind_bar]
theorem amount_send (r : ℕ) (d : Fin 3) : (Rd (F := F) P).amount (sendCell c x) r d = N x := by
  show amountOf (sendCell c x) = _; unfold amountOf; rw [kind_send]
theorem amount_recv (r : ℕ) (d : Fin 3) : (Rd (F := F) P).amount (recvCell c x) r d = N x := by
  show amountOf (recvCell c x) = _; unfold amountOf; rw [kind_recv]

theorem expect_bar : (Rd (F := F) P).expect (barCell c) 0 = 3 := by
  unfold Schedule.expect Schedule.amountOf
  rw [duties_bar, Finset.sum_congr rfl fun d _ => amount_bar P c 0 d, Finset.sum_const, Finset.card_univ, Fintype.card_fin, smul_eq_mul]
theorem expect_send : (Rd (F := F) P).expect (sendCell c x) 0 = N x := by
  unfold Schedule.expect Schedule.amountOf; rw [duties_send, Finset.sum_singleton, amount_send]
theorem expect_recv : (Rd (F := F) P).expect (recvCell c x) 0 = N x := by
  unfold Schedule.expect Schedule.amountOf; rw [duties_recv, Finset.sum_singleton, amount_recv]

theorem payload_bar (r : ℕ) (d : Fin 3) : (Rd (F := F) P).payload (barCell c) r d = barPay c d := by
  show payOf P (barCell c) d = _; unfold payOf; rw [kind_bar]
theorem payload_send (r : ℕ) (d : Fin 3) : (Rd (F := F) P).payload (sendCell c x) r d = sendPts c x (sent P c) := by
  show payOf P (sendCell c x) d = _; unfold payOf; rw [kind_send]
theorem payload_recv (r : ℕ) (d : Fin 3) : (Rd (F := F) P).payload (recvCell c x) r d = recvPts c x (landed P c) := by
  show payOf P (recvCell c x) d = _; unfold payOf; rw [kind_recv]

theorem rest_bar : bigSep ((Rd (F := F) P).duties (barCell c) 0 \ ∅) (fun d => (Rd (F := F) P).payload (barCell c) 0 d)
    = bigSep Finset.univ fun k => barPay (F := F) c k := by
  rw [Finset.sdiff_empty, duties_bar]; exact congrArg _ (funext fun d => payload_bar P c 0 d)
theorem rest_send : bigSep ((Rd (F := F) P).duties (sendCell c x) 0 \ ∅) (fun d => (Rd (F := F) P).payload (sendCell c x) 0 d)
    = sendPts c x (sent P c) := by
  rw [Finset.sdiff_empty, duties_send, bigSep_singleton, payload_send]
theorem rest_recv : bigSep ((Rd (F := F) P).duties (recvCell c x) 0 \ ∅) (fun d => (Rd (F := F) P).payload (recvCell c x) 0 d)
    = recvPts c x (landed P c) := by
  rw [Finset.sdiff_empty, duties_recv, bigSep_singleton, payload_recv]

end Sched

/-! ## What each device owes; the levels -/

/-- The slots, in the order their copies are started. -/
abbrev slots : List Slot := [(0, 0), (0, 1), (0, 2), (1, 0), (1, 1), (1, 2), (2, 0), (2, 1), (2, 2)]

/-- What device `c` owes for the copies `xs` it has yet to start: each partner's arrival. -/
def owedL (c : Dev nD) : List Slot → CellTallies nD τ sig Unit
  | [] => 0
  | x :: xs => owedL c xs + tallyAt (recvCell (peer (ax x) c) x) () (N x)

/-- What device `c` owes when it starts: all its copies, and a unit to each partner's barrier. -/
def O₀ (c : Dev nD) : CellTallies nD τ sig Unit :=
  owedL c slots + tallyAt (barCell (peer 2 c)) () 1 + tallyAt (barCell (peer 1 c)) () 1 + tallyAt (barCell (peer 0 c)) () 1

theorem owedL_pos {c : Dev nD} {xs : List Slot} {g : GSem nD τ sig} {u : Unit} (h : 0 < owedL c xs g u) :
    ∃ y ∈ xs, g = recvCell (peer (ax y) c) y := by
  induction xs with
  | nil => exact absurd h (Nat.lt_irrefl 0)
  | cons x xs ih =>
    unfold owedL at h
    rw [Pi.add_apply, Finsupp.add_apply, tallyAt_apply] at h
    by_cases hx : g = recvCell (peer (ax x) c) x ∧ u = ()
    · exact ⟨x, List.mem_cons_self, hx.1⟩
    · rw [if_neg hx] at h
      obtain ⟨y, hy, e⟩ := ih h
      exact ⟨y, List.mem_cons_of_mem _ hy, e⟩

theorem O₀_pos {c : Dev nD} {g : GSem nD τ sig} {u : Unit} (h : 0 < O₀ c g u) :
    (∃ y, g = recvCell (peer (ax y) c) y) ∨ ∃ k, g = barCell (peer k c) := by
  unfold O₀ at h
  simp only [Pi.add_apply, Finsupp.add_apply, tallyAt_apply] at h
  by_contra hn
  rw [not_or] at hn
  rw [if_neg (fun h' => hn.2 ⟨2, h'.1⟩), if_neg (fun h' => hn.2 ⟨1, h'.1⟩), if_neg (fun h' => hn.2 ⟨0, h'.1⟩)] at h
  obtain ⟨y, -, e⟩ := owedL_pos (show 0 < owedL c slots g u by simpa only [Nat.add_zero] using h)
  exact hn.1 ⟨y, e⟩

def L (g : GSem nD τ sig) : Finset Unit := if g.1.2 = .tc then {()} else ∅
/-- The order of waiting: staging and departures first, then the barrier, then the arrivals, step by step. -/
def lvOf (k : Kind) : ℕ := match k with | .bar => 1 | .recv x => 2 + x.1.val | _ => 0
def lv (g : GSem nD τ sig) (_ : Unit) : ℕ := lvOf (kind g.2)

theorem L_of_ne (g : GSem nD τ sig) (h : g.1.2 ≠ .tc) : L g = ∅ := if_neg h
theorem L_tc (c : Dev nD) (sm : SemLoc sig) : L ((c : Thread nD τ), sm) = {()} := if_pos rfl

/-- A wait below every arrival the device still owes is safe. -/
theorem mayWait_slots (c : Dev nD) (sm : SemLoc sig) (xs : List Slot) (h : ∀ y ∈ xs, lvOf (kind sm) < 2 + y.1.val) :
    (levAts L lv : sProp 𝕄) ⊢ MayWait (c : Thread nD τ) sm () (owedL c xs) :=
  MayOwe.of_cut (L := L) (lev := lv) (lvOf (kind sm))
    (fun p hp => by rw [Finset.mem_singleton.mp hp, L_tc]; exact Finset.mem_singleton_self _)
    (fun g u hg => by obtain ⟨y, -, rfl⟩ := owedL_pos hg; exact Finset.mem_singleton_self _)
    (fun p hp => by rw [Finset.mem_singleton.mp hp]; exact le_rfl)
    (fun g u hg => by
      obtain ⟨y, hy, rfl⟩ := owedL_pos hg
      show _ < lvOf (kind (.dma (recvS y)))
      rw [kind_recv]
      exact h y hy)

/-! ## The cells and their shared invariants -/

/-- The semaphores of one device: its barrier, its slots' departures, its slots' arrivals. -/
abbrev Cx : Type := Unit ⊕ (Slot ⊕ Slot)
abbrev csem : Cx → SemLoc sig
  | .inl _ => .reg barS
  | .inr (.inl x) => .dma (sendS x)
  | .inr (.inr x) => .dma (recvS x)
abbrev kcell (i : Dev nD × Cx) : GSem nD τ sig := ((i.1 : Thread nD τ), csem i.2)

/-- What every device may consult: all the cells' invariants, under the names `K`, and that every barrier is at its first round. -/
def records (K : GSem nD τ sig → ℕ) : sProp 𝕄 :=
  iprop((bigSep Finset.univ fun i : Dev nD × Cx => cellInv ER (Rd P) (K (kcell i)) (kcell i))
    ∗ bigSep Finset.univ fun c : Dev nD => reached ER (barCell c) 0)

instance records_persistent (K : GSem nD τ sig → ℕ) : BI.Persistent (records P K) := by unfold records; infer_instance

theorem records_inv (K : GSem nD τ sig → ℕ) (i : Dev nD × Cx) : records P K ⊢ cellInv ER (Rd P) (K (kcell i)) (kcell i) := by
  have h : (bigSep Finset.univ fun i : Dev nD × Cx => (cellInv ER (Rd P) (K (kcell i)) (kcell i) : sProp 𝕄))
      ⊢ cellInv ER (Rd P) (K (kcell i)) (kcell i) := bigSep_elim (Finset.mem_univ i)
  unfold records
  iintro ⟨H, -⟩
  iapply h; iexact H

theorem records_reached (K : GSem nD τ sig → ℕ) (c : Dev nD) : records P K ⊢ reached ER (barCell c) 0 := by
  have h : (bigSep Finset.univ fun c : Dev nD => (reached ER (barCell c) 0 : sProp 𝕄)) ⊢ reached ER (barCell c) 0 := bigSep_elim (Finset.mem_univ c)
  unfold records
  iintro ⟨-, H⟩
  iapply h; iexact H

end Cert.KernelIdealProof
end
-- ==== Proof.Steps.lean ====
/-
The steps of one slot. A slot is filled with the running sum, its copy is started, the copy's departure is waited for
(the sent rows come back), the partner's rows are waited for, and they are read. Each step is proved once, for any
slot, any partner and any rectangle that is the slot's rectangle.
-/
module

public import proofs.«01_k».proof.Proof.Schedule

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (P : Dev nD → FVec F S256x512 .f32) (K : GSem nD τ sig → ℕ) (c : Dev nD)

/-! ## The states of a slot -/

/-- Before the barrier: the sending rows, the positions on the slot's two semaphores, the rights to pay its own
    departure and the partner's arrival, the credit for its own arrival. -/
def idle (x : Slot) : sProp 𝕄 :=
  iprop((∃ f, sendPts (F := F) c x f) ∗ (atPos ER (sendCell c x) 0 ∅ 0 ∗ atPos ER (recvCell c x) 0 ∅ 0) ∗ reached ER (sendCell c x) 0
    ∗ (dutyTok ER (sendCell c x) 0 0 ∗ dutyTok ER (recvCell (peer (ax x) c) x) 0 0) ∗ cred (tallyAt (recvCell c x) () (N x)))
/-- After the barrier: with it the partner's rows to write. -/
def open' (x : Slot) : sProp 𝕄 := iprop(idle c x ∗ ready (peer (ax x) c) x)
/-- Filled: the sending rows hold the running sum. -/
def filled (x : Slot) : sProp 𝕄 :=
  iprop(sendPts (F := F) c x (sent P c) ∗ (atPos ER (sendCell c x) 0 ∅ 0 ∗ atPos ER (recvCell c x) 0 ∅ 0) ∗ reached ER (sendCell c x) 0
    ∗ (dutyTok ER (sendCell c x) 0 0 ∗ dutyTok ER (recvCell (peer (ax x) c) x) 0 0) ∗ cred (tallyAt (recvCell c x) () (N x))
    ∗ ready (peer (ax x) c) x)
/-- In flight: the credits for the departure and the arrival. -/
def flying (x : Slot) : sProp 𝕄 :=
  iprop((cred (tallyAt (sendCell c x) () (N x)) ∗ atPos ER (sendCell c x) 0 ∅ 0) ∗ (cred (tallyAt (recvCell c x) () (N x)) ∗ atPos ER (recvCell c x) 0 ∅ 0))
/-- Departed: the sending rows are back and their semaphore is at zero. -/
def departed (x : Slot) : sProp 𝕄 :=
  iprop((sendPts (F := F) c x (sent P c) ∗ semVal (sendCell c x) 0) ∗ (cred (tallyAt (recvCell c x) () (N x)) ∗ atPos ER (recvCell c x) 0 ∅ 0))
/-- Done: the partner's rows have arrived, and both semaphores are at zero. -/
def done (x : Slot) : sProp 𝕄 :=
  iprop((sendPts (F := F) c x (sent P c) ∗ semVal (sendCell c x) 0) ∗ (recvPts (F := F) c x (landed P c) ∗ semVal (recvCell c x) 0))

/-- Device `c` still owes the copies `xs`. -/
def owing (xs : List Slot) : sProp 𝕄 := iprop(∃ W, owes (c : Thread nD τ) (owedL c xs) W)

/-! ## The steps -/

section Steps
variable {x : Slot} {r : Rect S3x256x512} (hr : r.set = slotSet x)

include hr in
/-- A slot is filled: what it held is read and dropped, and the running sum is stored. -/
theorem fill_step {w : r.shape.Idx → F .bf16} (hw : ∀ j, w j = sent P c (r.emb j))
    {hl : (Memref.whole cc0_scratch0).view.LoadsAt r.toLoadRect}
    {hx : ((Memref.whole cc0_scratch0).access r : View sig .tc _ _ _).Stores Finset.univ} {hm}
    {α : Type} {Q : α → sProp 𝕄} {k : PUnit → Prog (TpuEff nD τ sig (Elt F) Λ₀ .tc) α} :
    open' (F := F) c x ⊢ iprop((filled P c x -∗ wp frame (wpE (defs₀ (F := F)) 𝒱₀ (c : Thread nD τ) none) Set.univ (k ⟨⟩) Q)
      -∗ wp frame (wpE (defs₀ (F := F)) 𝒱₀ (c : Thread nD τ) none) Set.univ
          (.op (.load (Memref.whole cc0_scratch0) r.toLoadRect hl) fun _ => .op (.store (Memref.whole cc0_scratch0) r w Finset.univ hx hm) k) Q) := by
  have hsub : ((Memref.whole cc0_scratch0).view.setOn r.toLoadRect.set : Finset S3x256x512.Idx) ⊆ slotSet x :=
    ((View.set_slice (Memref.whole cc0_scratch0).view r).symm.trans ((sendAcc_set r).trans hr)).subset
  have hsub' : (((Memref.whole cc0_scratch0).access r : View sig .tc _ _ _).setOn Finset.univ : Finset S3x256x512.Idx) ⊆ slotSet x := by
    rw [← hr, ← sendAcc_set]; exact Finset.Subset.refl _
  unfold open' idle filled sendPts
  iintro ⟨⟨⟨%f, Hs⟩, Hat, Hr, Ht, Hc⟩, Hrd⟩ Hk
  iapply (wp_load 𝒱₀ (c : Thread nD τ) none Set.univ (m := Memref.whole cc0_scratch0) hsub) $$ Hs; iintro Hs
  iapply (wp_store 𝒱₀ (c : Thread nD τ) none Set.univ (m := Memref.whole cc0_scratch0) (r := r) (Mk := Finset.univ) hsub') $$ Hs; iintro Hs
  iapply Hk
  isplitl [Hs]
  · ihave Hs := (Entails.of_eq (pointsTo_congr (fun i hi => store_on (Val := Elt F) r f w (sent P c) hw i (hr ▸ hi)))) $$ Hs
    iexact Hs
  isplitl [Hat]; · iexact Hat
  isplitl [Hr]; · iexact Hr
  isplitl [Ht]; · iexact Ht
  isplitl [Hc] <;> iassumption

include hr in
/-- A slot's copy is started: the partner's arrival is paid. -/
theorem send_step {xs : List Slot} {dv : Dev nD} (hdv : dv = peer (ax x) c) {hr1 : ∀ a, r.stride a = 1} {s' : Shape} {sq : r.shape.Squeezes s'}
    {sS sR : DmaSem sig} (hS : sS = sendS x) (hR : sR = recvS x)
    (hN : (recvWin r hr1 s' sq).view.amount (.dma (recvS x)) = N x)
    {hsc : (recvWin r hr1 s' sq : Memref sig (Dev.tc dv : Thread nD τ).2.kind .vmem s' .bf16).view.ref.isScScratch = false}
    {hsrc : (sendWin r hr1 s' sq).view.WordExact} {hdst : (recvWin r hr1 s' sq).view.WordExact}
    {hsem : DmaTarget.Typed .vmem (.dma sR) (.remote (Dev.tc dv : Thread nD τ) (recvWin r hr1 s' sq) (.dma sS) hsc)}
    {α : Type} {Q : α → sProp 𝕄} {k : PUnit → Prog (TpuEff nD τ sig (Elt F) Λ₀ .tc) α} :
    records P K
      ⊢ iprop(filled P c x -∗ owing (F := F) c (x :: xs) -∗ (flying (F := F) c x -∗ owing c xs -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (sendWin r hr1 s' sq) (.remote (Dev.tc dv : Thread nD τ) (recvWin r hr1 s' sq) (.dma sS) hsc) (.dma sR) hsrc hdst hsem) k) Q) := by
  subst hdv hS hR
  unfold filled ready flying owing
  iintro #HR ⟨Hs, ⟨HaS, HaR⟩, Hr, ⟨HtS, HtR⟩, Hc, ⟨%fd, Hd⟩, HrR⟩ ⟨%W, HO⟩ Hk
  iapply (Rounds.wp_send_pointsTo 𝒱₀ ER (Rd P) (c : Thread nD τ) none (c' := (peer (ax x) c : Thread nD τ))
      (src := sendWin r hr1 s' sq) (dst := recvWin r hr1 s' sq) (sS := .dma (sendS x)) (sem := .dma (recvS x))
      (q := fullShare) (fs := (sent P c : Buf (Elt F) ((c : Thread nD τ).loc cc0_scratch0)))
      (κ₁ := K (sendCell c x)) (κ₂ := K (recvCell (peer (ax x) c) x))
      (r₁ := 0) (r₂ := 0) (d₁ := 0) (d₂ := 0) (fd := (fd : Buf (Elt F) ((peer (ax x) c : Thread nD τ).loc cc0_scratch1)))
      (by rw [duties_send]; exact Finset.mem_singleton_self _) (by rw [duties_recv]; exact Finset.mem_singleton_self _)
      () () (N x) hN (amount_send P c x 0 0) (amount_recv P (peer (ax x) c) x 0 0) (owedL c xs) rfl (W := W)
      (by
        rw [payload_send]; unfold sendPts
        exact Entails.of_eq (congrArg (fun S => pointsTo _ S _ _) ((sendWin_set r hr1 s' sq).trans hr)))
      (by
        rw [payload_recv]; unfold recvPts
        refine Entails.of_eq ?_
        refine (congrArg (fun S => pointsTo _ S _ _) ((recvWin_set r hr1 s' sq).trans hr)).trans ?_
        refine pointsTo_congr fun i hi => ?_
        rw [landed_on P _ x i hi, peer_peer]
        exact copy_on (Val := Elt F) r hr1 s' sq fd (sent P c) i (hr ▸ hi)))
    $$ [Hs Hd HO HtS Hr HtR HrR]
  · isplitr; · iapply (records_inv P K (c, .inr (.inl x))); iexact HR
    isplitr; · iapply (records_inv P K (peer (ax x) c, .inr (.inr x))); iexact HR
    isplitl [Hs]
    · unfold sendPts
      rw [show ((sendWin r hr1 s' sq).view.set : Finset S3x256x512.Idx) = slotSet x from (sendWin_set r hr1 s' sq).trans hr]
      iexact Hs
    isplitl [Hd]
    · unfold recvPts
      rw [show ((recvWin r hr1 s' sq).view.set : Finset S3x256x512.Idx) = slotSet x from (recvWin_set r hr1 s' sq).trans hr]
      iexact Hd
    isplitl [HO]; · iexact HO
    isplitl [HtS]; · iexact HtS
    isplitl [Hr]; · iexact Hr
    isplitl [HtR] <;> iassumption
  iintro ⟨HcS, HO⟩
  iapply Hk $$ [HcS HaS Hc HaR] [HO]
  · isplitl [HcS HaS]
    · isplitl [HcS] <;> iassumption
    · isplitl [Hc] <;> iassumption
  · iexists W; iexact HO

/-- The departure of a slot's copy is waited for: the sending rows come back. -/
theorem waitSend_step {xs : List Slot} (hxs : ∀ y ∈ xs, 0 < 2 + y.1.val) {sS : DmaSem sig} (hS : sS = sendS x)
    {sp sp' : Space} {s s' : Shape} {e e' : EltTy} {src : Memref sig .tc sp' s' e'} {dst : Memref sig .tc sp s e}
    {hsrc : src.view.WordExact} {hdst : dst.view.WordExact} (hN : dst.view.dmaCredit = N x)
    {α : Type} {Q : α → sProp 𝕄} {k : PUnit → Prog (TpuEff nD τ sig (Elt F) Λ₀ .tc) α} :
    records P K
      ⊢ iprop(levAts L lv -∗ flying (F := F) c x -∗ owing c xs -∗ (departed P c x -∗ owing c xs -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sS src dst hsrc hdst) k) Q) := by
  subst hS
  unfold flying departed owing
  iintro #HR #HL ⟨⟨HcS, HaS⟩, Hrest⟩ ⟨%W, HO⟩ Hk
  iapply (Rounds.wp_wait_rest_token 𝒱₀ ER (Rd P) (c : Thread nD τ) none (κ := K (sendCell c x)) (sm := .dma (sendS x)) (k' := N x)
      (fun Kc => (wpE_waitDma2_eq 𝒱₀ (c : Thread nD τ) none Set.univ Kc).trans (by rw [hN])) (Set.mem_univ _) () (O := owedL c xs) (W := W) (R := 0) (m := 0) (T := ∅)
      (by rw [Nat.zero_add, expect_send])) $$ [HcS HO HaS]
  · isplitr; · iapply (records_inv P K (c, .inr (.inl x))); iexact HR
    isplitl [HcS]; · iexact HcS
    isplitl [HO]; · iexact HO
    isplitr
    · iapply (mayWait_slots c (.dma (sendS x)) xs (by rw [kind_send]; exact hxs)); iexact HL
    iexact HaS
  iintro ⟨HO, HaS, -, Hpay⟩
  ihave Hs := (Entails.of_eq (rest_send P c x)) $$ Hpay
  imod (Rounds.cell_close ER (Rd P) (Set.mem_univ (K (sendCell c x))) (fun h => h) (R := 0 + 1) (duties_later P (sendCell c x))) $$ [HaS] with Hz
  · isplitr; · iapply (records_inv P K (c, .inr (.inl x))); iexact HR
    iexact HaS
  iapply Hk $$ [Hs Hz Hrest] [HO]
  · isplitr [Hrest]
    · isplitl [Hs] <;> iassumption
    · iexact Hrest
  · iexists _; iexact HO

/-- The arrival of the partner's copy is waited for: its rows come with it. -/
theorem waitRecv_step {xs : List Slot} (hxs : ∀ y ∈ xs, 2 + x.1.val < 2 + y.1.val) {sR : DmaSem sig} (hR : sR = recvS x)
    {sp sp' : Space} {s s' : Shape} {e e' : EltTy} {src : Memref sig .tc sp' s' e'} {dst : Memref sig .tc sp s e}
    {hsrc : src.view.WordExact} {hdst : dst.view.WordExact} (hN : dst.view.dmaCredit = N x)
    {α : Type} {Q : α → sProp 𝕄} {k : PUnit → Prog (TpuEff nD τ sig (Elt F) Λ₀ .tc) α} :
    records P K
      ⊢ iprop(levAts L lv -∗ departed (F := F) P c x -∗ owing c xs -∗ (done P c x -∗ owing c xs -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sR src dst hsrc hdst) k) Q) := by
  subst hR
  unfold departed done owing
  iintro #HR #HL ⟨Hrest, ⟨HcR, HaR⟩⟩ ⟨%W, HO⟩ Hk
  iapply (Rounds.wp_wait_rest_token 𝒱₀ ER (Rd P) (c : Thread nD τ) none (κ := K (recvCell c x)) (sm := .dma (recvS x)) (k' := N x)
      (fun Kc => (wpE_waitDma2_eq 𝒱₀ (c : Thread nD τ) none Set.univ Kc).trans (by rw [hN])) (Set.mem_univ _) () (O := owedL c xs) (W := W) (R := 0) (m := 0) (T := ∅)
      (by rw [Nat.zero_add, expect_recv])) $$ [HcR HO HaR]
  · isplitr; · iapply (records_inv P K (c, .inr (.inr x))); iexact HR
    isplitl [HcR]; · iexact HcR
    isplitl [HO]; · iexact HO
    isplitr
    · iapply (mayWait_slots c (.dma (recvS x)) xs (by rw [kind_recv]; exact hxs)); iexact HL
    iexact HaR
  iintro ⟨HO, HaR, -, Hpay⟩
  ihave Hs := (Entails.of_eq (rest_recv P c x)) $$ Hpay
  imod (Rounds.cell_close ER (Rd P) (Set.mem_univ (K (recvCell c x))) (fun h => h) (R := 0 + 1) (duties_later P (recvCell c x))) $$ [HaR] with Hz
  · isplitr; · iapply (records_inv P K (c, .inr (.inr x))); iexact HR
    iexact HaR
  iapply Hk $$ [Hs Hz Hrest] [HO]
  · isplitl [Hrest]; · iexact Hrest
    isplitl [Hs] <;> iassumption
  · iexists _; iexact HO

include hr in
/-- The rows that arrived are read. -/
theorem read_step {hl : (Memref.whole cc0_scratch1).view.LoadsAt r.toLoadRect}
    {α : Type} {Q : α → sProp 𝕄} {k : (r.shape.Idx → F .bf16) → Prog (TpuEff nD τ sig (Elt F) Λ₀ .tc) α} :
    done (F := F) P c x ⊢ iprop((done P c x -∗ wp frame (wpE (defs₀ (F := F)) 𝒱₀ (c : Thread nD τ) none) Set.univ (k fun j => landed P c (r.emb j)) Q)
      -∗ wp frame (wpE (defs₀ (F := F)) 𝒱₀ (c : Thread nD τ) none) Set.univ (.op (.load (Memref.whole cc0_scratch1) r.toLoadRect hl) k) Q) := by
  have hsub : ((Memref.whole cc0_scratch1).view.setOn r.toLoadRect.set : Finset S3x256x512.Idx) ⊆ slotSet x :=
    ((View.set_slice (Memref.whole cc0_scratch1).view r).symm.trans ((recvAcc_set r).trans hr)).subset
  unfold done recvPts
  iintro ⟨Hs, Hr, Hz⟩ Hk
  iapply (wp_load 𝒱₀ (c : Thread nD τ) none Set.univ (m := Memref.whole cc0_scratch1) hsub) $$ Hr; iintro Hr
  iapply Hk
  isplitl [Hs]; · iexact Hs
  isplitl [Hr] <;> iassumption

end Steps

end Cert.KernelIdealProof
end
-- ==== Proof.Partial.lean ====
/-
One device's partial product, as the body computes it from the five arrays in its staging buffers: its four heads'
queries, each batch's scores, weights and weighted values, and the product with its rows of the output weights.
-/
module

public import proofs.«01_k».proof.Proof.Gen.KernelIdeal.Skeleton

@[expose] public section

set_option maxRecDepth 16384

noncomputable section

namespace Cert.KernelIdealProof

open Cert.KernelIdeal Cert.KernelIdeal.Gen
open Idealize.ShloMosaic

variable {F : FTy → Type} [FloatOps F]

/-- One batch's plane of an array of two. -/
def plane (b : ℕ) (inb : ∀ a, (![b, 0, 0] : Fin 3 → ℕ) a + (![1, 128, 256] : Fin 3 → ℕ) a ≤ S2x128x256.size a)
    (v : FVec F S2x128x256 .bf16) : FVec F S1x128x256 .bf16 :=
  fun j => v ((Rect.unit (s := S2x128x256) ![b, 0, 0] S1x128x256.size inb).emb j)

/-- Batch 0's plane. -/
abbrev plane0 (v : FVec F S2x128x256 .bf16) : FVec F S1x128x256 .bf16 := plane 0 inb_S2x128x256_S1x128x256_0_0_0 v
/-- Batch 1's plane. -/
abbrev plane1 (v : FVec F S2x128x256 .bf16) : FVec F S1x128x256 .bf16 := plane 1 inb_S2x128x256_S1x128x256_1_0_0 v

/-- Batch 0's rows: the weighted values of the four heads, side by side. -/
abbrev rowsOf0 (x : FVec F S2x128x512 .bf16) (wq : FVec F S512x256 .bf16) (k v : FVec F S1x128x256 .bf16) : FVec F S128x256 .bf16 :=
  k0_pay12 (k0_pay6 (k0_pay4 v) (k0_pay5 x wq k) (Scalar.ofBits .f32 0x3E000000#32))
    (k0_pay7 (k0_pay1 x wq) (k0_pay2 k) (k0_pay3 v)) (k0_pay8 (k0_pay1 x wq) (k0_pay2 k) (k0_pay3 v))
    (k0_pay9 (k0_pay1 x wq)) (k0_pay10 (k0_pay2 k)) (k0_pay11 (k0_pay3 v))

/-- Both batches' rows. -/
def rowsOf (x : FVec F S2x128x512 .bf16) (wq : FVec F S512x256 .bf16) (k v : FVec F S2x128x256 .bf16) : FVec F S256x256 .bf16 :=
  k0_pay18 (k0_pay1 x wq) (rowsOf0 x wq (plane0 k) (plane0 v)) (k0_pay13 (plane1 k)) (k0_pay14 (plane1 v))
    (k0_pay15 (k0_pay1 x wq) (plane1 k) (plane1 v)) (k0_pay16 (plane1 v)) (k0_pay17 (k0_pay1 x wq) (plane1 k))

/-- The device's partial product. -/
def part (x : FVec F S2x128x512 .bf16) (wq : FVec F S512x256 .bf16) (k v : FVec F S2x128x256 .bf16) (wo : FVec F S256x512 .bf16) : FVec F S256x512 .f32 :=
  k0_pay20 (rowsOf x wq k v) (k0_pay19 wo) (constant S256x512 .f32 0x00000000#32)

end Cert.KernelIdealProof
end
-- ==== Proof.Body.lean ====
/-
One device's run of the body: from the five staged arrays and the rights the exchange needs, to the sum of all eight
partial products in the result's staging buffer, every slot done and the barrier semaphore at zero.
-/
module

public import proofs.«01_k».proof.Proof.Steps
public import proofs.«01_k».proof.Proof.Partial

@[expose] public section

set_option maxRecDepth 65536

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → FVec F S256x512 .f32) (K : GSem nD τ sig → ℕ) (c : Dev nD)

/-! ## Slots by axis -/

/-- A slot, named by its axis and its step. -/
def byAxis : Fin 3 × Fin 3 ≃ Slot where
  toFun p := (p.2, p.1 - p.2)
  invFun x := (ax x, x.1)
  left_inv := by intro p; revert p; decide
  right_inv := by intro p; revert p; decide

theorem bigSep_byAxis (Φ : Slot → sProp 𝕄) :
    bigSep Finset.univ Φ = bigSep Finset.univ fun k : Fin 3 => bigSep Finset.univ fun s : Fin 3 => Φ (s, k - s) := by
  rw [bigSep_univ_equiv byAxis, bigSep_univ_prod]; rfl

theorem ax_byAxis (k s : Fin 3) : ax (s, k - s) = k := by revert k s; decide

/-- The places device `c` lends, axis by axis: what it hands its three partners. -/
theorem lend : (bigSep Finset.univ fun x => ready (F := F) c x) = bigSep Finset.univ fun k => barPay (F := F) (peer k c) k := by
  rw [bigSep_byAxis]
  refine bigSep_congr fun k _ => ?_
  unfold barPay
  rw [peer_peer]

/-- The places device `c` borrows at the barrier, slot by slot. -/
theorem borrow : (bigSep Finset.univ fun k => barPay (F := F) c k) = bigSep Finset.univ fun x => ready (F := F) (peer (ax x) c) x := by
  rw [bigSep_byAxis]
  refine bigSep_congr fun k _ => ?_
  unfold barPay
  refine bigSep_congr fun s _ => ?_
  rw [ax_byAxis]

theorem bigSep_axes (Φ : Fin 3 → sProp 𝕄) : bigSep Finset.univ Φ = iprop(Φ 0 ∗ Φ 1 ∗ Φ 2) :=
  bigSep_univ_eq_bigSepL [0, 1, 2] (by decide) (by decide) Φ

theorem bigSep_slots (Φ : Slot → sProp 𝕄) :
    bigSep Finset.univ Φ = iprop(Φ (0, 0) ∗ Φ (0, 1) ∗ Φ (0, 2) ∗ Φ (1, 0) ∗ Φ (1, 1) ∗ Φ (1, 2) ∗ Φ (2, 0) ∗ Φ (2, 1) ∗ Φ (2, 2)) :=
  bigSep_univ_eq_bigSepL slots (by decide) (by decide) Φ

/-! ## Reading the staged arrays -/

section Stage
variable {Val : EltTy → Type}
theorem hz2 : (![0, 0] : Fin 2 → ℕ) = fun _ => 0 := funext fun a => by fin_cases a <;> rfl
theorem hz3 : (![0, 0, 0] : Fin 3 → ℕ) = fun _ => 0 := funext fun a => by fin_cases a <;> rfl
theorem read_x (f : (cc0_stg0_0 : Ref sig .tc).ty.Contents Val) :
    (Memref.whole cc0_stg0_0).view.readAt Val (Rect.unit (s := S2x128x512) ![0, 0, 0] S2x128x512.size inb_S2x128x512_S2x128x512_0_0_0).toLoadRect f = f :=
  Memref.readAt_unit_zero Val cc0_stg0_0 hz3 _ f
theorem read_wq (f : (cc0_stg1_0 : Ref sig .tc).ty.Contents Val) :
    (Memref.whole cc0_stg1_0).view.readAt Val (Rect.unit (s := S512x256) ![0, 0] S512x256.size inb_S512x256_S512x256_0_0).toLoadRect f = f :=
  Memref.readAt_unit_zero Val cc0_stg1_0 hz2 _ f
theorem read_wo (f : (cc0_stg4_0 : Ref sig .tc).ty.Contents Val) :
    (Memref.whole cc0_stg4_0).view.readAt Val (Rect.unit (s := S256x512) ![0, 0] S256x512.size inb_S256x512_S256x512_0_0).toLoadRect f = f :=
  Memref.readAt_unit_zero Val cc0_stg4_0 hz2 _ f
theorem write_out (f w : (cc0_stg5_0 : Ref sig .tc).ty.Contents Val) :
    ((Memref.whole cc0_stg5_0).access (Rect.unit (s := S2x128x512) ![0, 0, 0] S2x128x512.size inb_S2x128x512_S2x128x512_0_0_0) : View sig .tc _ _ _).write Val f w Finset.univ = w :=
  Memref.write_access_unit_zero_univ Val cc0_stg5_0 hz3 _ f w
end Stage

theorem read_k0 (f : FVec F S2x128x256 .bf16) :
    (Memref.whole cc0_stg2_0).view.readAt (Elt F) (Rect.unit (s := S2x128x256) ![0, 0, 0] S1x128x256.size inb_S2x128x256_S1x128x256_0_0_0).toLoadRect f = plane0 f := rfl
theorem read_v0 (f : FVec F S2x128x256 .bf16) :
    (Memref.whole cc0_stg3_0).view.readAt (Elt F) (Rect.unit (s := S2x128x256) ![0, 0, 0] S1x128x256.size inb_S2x128x256_S1x128x256_0_0_0).toLoadRect f = plane0 f := rfl
theorem read_k1 (f : FVec F S2x128x256 .bf16) :
    (Memref.whole cc0_stg2_0).view.readAt (Elt F) (Rect.unit (s := S2x128x256) ![1, 0, 0] S1x128x256.size inb_S2x128x256_S1x128x256_1_0_0).toLoadRect f = plane1 f := rfl
theorem read_v1 (f : FVec F S2x128x256 .bf16) :
    (Memref.whole cc0_stg3_0).view.readAt (Elt F) (Rect.unit (s := S2x128x256) ![1, 0, 0] S1x128x256.size inb_S2x128x256_S1x128x256_1_0_0).toLoadRect f = plane1 f := rfl

/-- A staging buffer of device `c`, holding `X`. -/
abbrev stg (b : Ref sig .tc) (X : b.ty.Contents (Elt F)) : sProp 𝕄 := ((c : Thread nD τ).loc b) ↦{fullShare} (X : Buf (Elt F) ((c : Thread nD τ).loc b))

/-- What device `c`'s exchange starts from. -/
def start : sProp 𝕄 :=
  iprop(records P K ∗ levAts L lv ∗ (bigSep Finset.univ fun x => idle (F := F) c x) ∗ (bigSep Finset.univ fun x => ready (F := F) c x)
    ∗ (atPos ER (barCell c) 0 ∅ 0 ∗ cred (tallyAt (barCell c) () 3))
    ∗ (bigSep Finset.univ fun k : Fin 3 => dutyTok ER (barCell (peer k c)) 0 k))

/-- What it ends with: every slot done, the barrier semaphore at zero. -/
def finish : sProp 𝕄 := iprop((bigSep Finset.univ fun x => done (F := F) P c x) ∗ semVal (barCell c) 0)

section Run
variable (x : FVec F S2x128x512 .bf16) (wq : FVec F S512x256 .bf16) (k v : FVec F S2x128x256 .bf16) (wo : FVec F S256x512 .bf16)

variable {P c} in
/-- The first step's first store, from the product the body holds. -/
theorem fill_first {A : FVec F S256x256 .bf16} {B : FVec F S256x512 .bf16} {C : FVec F S256x512 .f32} (h : acc P 0 c = k0_pay20 A B C) (j : S1x88x512.Idx) :
    k0_pay21 A B C j = sent P c ((Rect.unit (s := S3x256x512) ![0, 0, 0] S1x88x512.size inb_S3x256x512_S1x88x512_0_0_0).emb j) := by
  rw [← store88 P 0 c 0 slices_S256x512_o0_0_S88x512, h]; rfl
variable {P c} in
/-- The first step's second store. -/
theorem fill_second {A : FVec F S256x256 .bf16} {B : FVec F S256x512 .bf16} {C : FVec F S256x512 .f32} (h : acc P 0 c = k0_pay20 A B C) (j : S1x88x512.Idx) :
    k0_pay22 A B C j = sent P c ((Rect.unit (s := S3x256x512) ![0, 88, 0] S1x88x512.size inb_S3x256x512_S1x88x512_0_88_0).emb j) := by
  rw [← store88 P 0 c 88 slices_S256x512_o88_0_S88x512, h]; rfl

variable {P c} in
/-- The second step's first store, from the sum the body holds. -/
theorem fill_third {A B : FVec F S88x512 .f32} {C D : FVec F S80x512 .f32} (h : k0_pay28 A B C D = acc P 1 c) (j : S1x88x512.Idx) :
    k0_pay29 A B C D j = sent P c ((Rect.unit (s := S3x256x512) ![1, 0, 0] S1x88x512.size inb_S3x256x512_S1x88x512_1_0_0).emb j) := by
  rw [← store88 P 1 c 0 slices_S256x512_o0_0_S88x512, ← h]; rfl
variable {P c} in
/-- The second step's second store. -/
theorem fill_fourth {A B : FVec F S88x512 .f32} {C D : FVec F S80x512 .f32} (h : k0_pay28 A B C D = acc P 1 c) (j : S1x88x512.Idx) :
    k0_pay30 A B C D j = sent P c ((Rect.unit (s := S3x256x512) ![1, 88, 0] S1x88x512.size inb_S3x256x512_S1x88x512_1_88_0).emb j) := by
  rw [← store88 P 1 c 88 slices_S256x512_o88_0_S88x512, ← h]; rfl

set_option maxHeartbeats 4000000 in
/-- The body's run on device `c`. -/
theorem sound_body (hP : P c = part x wq k v wo) (f5 : FVec F S2x128x512 .bf16) (W : Waits sig Unit) (Kt : PUnit → sProp 𝕄) :
    iprop((start P K c ∗ owes (c : Thread nD τ) (O₀ c) W
          ∗ stg c cc0_stg0_0 x ∗ stg c cc0_stg1_0 wq ∗ stg c cc0_stg2_0 k ∗ stg c cc0_stg3_0 v ∗ stg c cc0_stg4_0 wo ∗ stg c cc0_stg5_0 f5)
        ∗ ((finish P c ∗ owing c []
          ∗ stg c cc0_stg0_0 x ∗ stg c cc0_stg1_0 wq ∗ stg c cc0_stg2_0 k ∗ stg c cc0_stg3_0 v ∗ stg c cc0_stg4_0 wo ∗ stg c cc0_stg5_0 (out P c)) -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3) Kt := by
  rw [cc0_body_eq_skeleton]; unfold cc0_body_skel
  rw [wp_bind, k0_part1_eq_skeleton]; unfold k0_part1_skel
  simp only [semSignalWord, semWaitWord, Prog.lift, Prog.bind_op, Prog.bind_ret, Prog.pure_eq_ret, wp_deviceId, dev1_eq c, dev2_eq c, dev3_eq c]
  unfold start O₀
  rw [lend, bigSep_axes, bigSep_axes]
  iintro ⟨⟨⟨#HR, #HL, Hidle, ⟨HB0, HB1, HB2⟩, ⟨HaB, HcB⟩, ⟨Ht0, Ht1, Ht2⟩⟩, HO, H0, H1, H2, H3, H4, H5⟩, Hk⟩
  iapply (Rounds.wp_signal 𝒱₀ ER (Rd P) (c : Thread nD τ) none (dst := (peer 0 c : Thread nD τ)) (κ := K (barCell (peer 0 c))) (r := 0)
      (d := 0) (by rw [duties_bar]; exact Finset.mem_univ _) ((amount_bar P (peer 0 c) 0 0).trans (by decide)) () _ rfl)
    $$ [HO Ht0 HB0]
  · isplitr; · iapply (records_inv P K (peer 0 c, .inl ())); iexact HR
    isplitl [HO]; · iexact HO
    isplitl [Ht0]; · iexact Ht0
    isplitl [HB0]; · rw [payload_bar]; iexact HB0
    iapply (records_reached P K (peer 0 c)); iexact HR
  iintro HO
  iapply (Rounds.wp_signal 𝒱₀ ER (Rd P) (c : Thread nD τ) none (dst := (peer 1 c : Thread nD τ)) (κ := K (barCell (peer 1 c))) (r := 0)
      (d := 1) (by rw [duties_bar]; exact Finset.mem_univ _) ((amount_bar P (peer 1 c) 0 1).trans (by decide)) () _ rfl)
    $$ [HO Ht1 HB1]
  · isplitr; · iapply (records_inv P K (peer 1 c, .inl ())); iexact HR
    isplitl [HO]; · iexact HO
    isplitl [Ht1]; · iexact Ht1
    isplitl [HB1]; · rw [payload_bar]; iexact HB1
    iapply (records_reached P K (peer 1 c)); iexact HR
  iintro HO
  iapply (Rounds.wp_signal 𝒱₀ ER (Rd P) (c : Thread nD τ) none (dst := (peer 2 c : Thread nD τ)) (κ := K (barCell (peer 2 c))) (r := 0)
      (d := 2) (by rw [duties_bar]; exact Finset.mem_univ _) ((amount_bar P (peer 2 c) 0 2).trans (by decide)) () _ rfl)
    $$ [HO Ht2 HB2]
  · isplitr; · iapply (records_inv P K (peer 2 c, .inl ())); iexact HR
    isplitl [HO]; · iexact HO
    isplitl [Ht2]; · iexact Ht2
    isplitl [HB2]; · rw [payload_bar]; iexact HB2
    iapply (records_reached P K (peer 2 c)); iexact HR
  iintro HO
  iapply (wp_load 𝒱₀ (c : Thread nD τ) none Set.univ (m := Memref.whole cc0_stg0_0) (Finset.subset_univ _)) $$ H0; iintro H0
  rw [read_x]
  iapply (wp_load 𝒱₀ (c : Thread nD τ) none Set.univ (m := Memref.whole cc0_stg1_0) (Finset.subset_univ _)) $$ H1; iintro H1
  rw [read_wq]
  iapply (wp_load 𝒱₀ (c : Thread nD τ) none Set.univ (m := Memref.whole cc0_stg2_0) (Finset.subset_univ _)) $$ H2; iintro H2
  rw [read_k0]
  iapply (wp_load 𝒱₀ (c : Thread nD τ) none Set.univ (m := Memref.whole cc0_stg3_0) (Finset.subset_univ _)) $$ H3; iintro H3
  rw [read_v0]
  rw [wp_ret]; imodintro
  rw [wp_bind, k0_part2_eq_skeleton]; unfold k0_part2_skel
  simp only [Prog.pure_eq_ret, wp_ret]
  imodintro
  rw [wp_bind, k0_part3_eq_skeleton]; unfold k0_part3_skel
  simp only [Prog.lift, Prog.bind_op, Prog.bind_ret, Prog.pure_eq_ret]
  iapply (wp_load 𝒱₀ (c : Thread nD τ) none Set.univ (m := Memref.whole cc0_stg2_0) (Finset.subset_univ _)) $$ H2; iintro H2
  rw [read_k1]
  iapply (wp_load 𝒱₀ (c : Thread nD τ) none Set.univ (m := Memref.whole cc0_stg3_0) (Finset.subset_univ _)) $$ H3; iintro H3
  rw [read_v1]
  rw [wp_ret]; imodintro
  rw [wp_bind, k0_part4_eq_skeleton]; unfold k0_part4_skel
  simp only [Prog.lift, Prog.bind_op, Prog.bind_ret, Prog.pure_eq_ret]
  iapply (wp_load 𝒱₀ (c : Thread nD τ) none Set.univ (m := Memref.whole cc0_stg4_0) (Finset.subset_univ _)) $$ H4; iintro H4
  rw [read_wo]
  rw [wp_ret]; imodintro
  dsimp only
  obtain ⟨A, hA⟩ : ∃ A, A = rowsOf x wq k v := ⟨_, rfl⟩
  rw [show k0_pay18 (k0_pay1 x wq) (rowsOf0 x wq (plane0 k) (plane0 v)) (k0_pay13 (plane1 k)) (k0_pay14 (plane1 v))
    (k0_pay15 (k0_pay1 x wq) (plane1 k) (plane1 v)) (k0_pay16 (plane1 v)) (k0_pay17 (k0_pay1 x wq) (plane1 k)) = A from hA.symm]
  have h0 : acc P 0 c = k0_pay20 A (k0_pay19 wo) (constant S256x512 .f32 0x00000000#32) := by rw [acc_zero, hP, hA]; rfl
  clear hA hP
  rw [wp_bind, k0_part5_eq_skeleton]; unfold k0_part5_skel
  simp only [semWaitWord, Prog.lift, Prog.bind_op, Prog.bind_ret, Prog.pure_eq_ret]
  -- the barrier: the partners' places come with it
  iapply (Rounds.wp_wait_rest_token 𝒱₀ ER (Rd P) (c : Thread nD τ) none (κ := K (barCell c))
      (wpE_semWait_eq 𝒱₀ (c : Thread nD τ) none Set.univ) (Set.mem_univ _) () (O := owedL c slots) (W := W) (R := 0) (m := 0) (T := ∅)
      (by rw [expect_bar]; decide)) $$ [HcB HO HaB]
  · isplitr; · iapply (records_inv P K (c, .inl ())); iexact HR
    isplitl [HcB]; · iexact HcB
    isplitl [HO]; · iexact HO
    isplitr; · iapply (mayWait_slots c (.reg barS) slots (by rw [kind_bar]; decide)); iexact HL
    iexact HaB
  iintro ⟨HO, HaB, -, Hpay⟩
  ihave Hp := (Entails.of_eq ((rest_bar P c).trans (borrow c))) $$ Hpay
  imod (Rounds.cell_close ER (Rd P) (Set.mem_univ (K (barCell c))) (fun h => h) (R := 0 + 1) (duties_later P (barCell c))) $$ [HaB] with HzB
  · isplitr; · iapply (records_inv P K (c, .inl ())); iexact HR
    iexact HaB
  ihave Hopen := (Entails.of_eq ((bigSep_sep' Finset.univ (fun x => idle (F := F) c x) (fun x => ready (peer (ax x) c) x)).symm.trans
    (bigSep_slots (fun x => open' (F := F) c x)))) $$ [Hidle Hp]
  · isplitl [Hidle] <;> iassumption
  icases Hopen with ⟨H00, H01, H02, H10, H11, H12, H20, H21, H22⟩
  ihave HO : (owing (F := F) c slots) $$ [HO]
  · unfold owing; iexists _; iexact HO
  -- step 0
  iapply (fill_step P c (x := (0, 0)) (rect_set (s := 0) (0, 0) rfl rows0) (fill_first h0)) $$ H00; iintro H00
  iapply (send_step P K c (x := (0, 0)) (rect_set (s := 0) (0, 0) rfl rows0) (dev4_eq c) rfl rfl rfl) $$ HR H00 HO; iintro H00 HO
  iapply (fill_step P c (x := (0, 1)) (rect_set (s := 0) (0, 1) rfl rows1) (fill_second h0)) $$ H01; iintro H01
  rw [wp_ret, ← h0]; imodintro
  clear h0
  rw [wp_bind, k0_part6_eq_skeleton]; unfold k0_part6_skel
  simp only [Prog.lift, Prog.bind_op, Prog.bind_ret, Prog.pure_eq_ret]
  iapply (send_step P K c (x := (0, 1)) (rect_set (s := 0) (0, 1) rfl rows1) (dev5_eq c) rfl rfl rfl) $$ HR H01 HO; iintro H01 HO
  iapply (fill_step P c (x := (0, 2)) (rect_set (s := 0) (0, 2) rfl rows2) (store80 P 0 c 176 _ _)) $$ H02; iintro H02
  iapply (send_step P K c (x := (0, 2)) (rect_set (s := 0) (0, 2) rfl rows2) (dev6_eq c) rfl rfl rfl) $$ HR H02 HO; iintro H02 HO
  iapply (waitSend_step P K c (x := (0, 0)) (by decide) rfl rfl) $$ HR HL H00 HO; iintro H00 HO
  rw [wp_ret]; imodintro
  rw [wp_bind, k0_part7_eq_skeleton]; unfold k0_part7_skel
  simp only [Prog.lift, Prog.bind_op, Prog.bind_ret, Prog.pure_eq_ret]
  iapply (waitRecv_step P K c (x := (0, 0)) (by decide) rfl rfl) $$ HR HL H00 HO; iintro H00 HO
  iapply (read_step P c (x := (0, 0)) (rect_set (s := 0) (0, 0) rfl rows0)) $$ H00; iintro H00
  iapply (waitSend_step P K c (x := (0, 1)) (by decide) rfl rfl) $$ HR HL H01 HO; iintro H01 HO
  rw [wp_ret]; imodintro
  rw [wp_bind, k0_part8_eq_skeleton]; unfold k0_part8_skel
  simp only [Prog.lift, Prog.bind_op, Prog.bind_ret, Prog.pure_eq_ret]
  iapply (waitRecv_step P K c (x := (0, 1)) (by decide) rfl rfl) $$ HR HL H01 HO; iintro H01 HO
  iapply (read_step P c (x := (0, 1)) (rect_set (s := 0) (0, 1) rfl rows1)) $$ H01; iintro H01
  iapply (waitSend_step P K c (x := (0, 2)) (by decide) rfl rfl) $$ HR HL H02 HO; iintro H02 HO
  iapply (waitRecv_step P K c (x := (0, 2)) (by decide) rfl rfl) $$ HR HL H02 HO; iintro H02 HO
  iapply (read_step P c (x := (0, 2)) (rect_set (s := 0) (0, 2) rfl rows2)) $$ H02; iintro H02
  rw [wp_ret]; imodintro
  -- step 1
  dsimp only
  rw [wp_bind, k0_part9_eq_skeleton]; unfold k0_part9_skel
  simp only [Prog.lift, Prog.bind_op, Prog.bind_ret, Prog.pure_eq_ret]
  iapply (fill_step P c (x := (1, 0)) (rect_set (s := 1) (1, 0) rfl rows0) (fill_third (step1 P c))) $$ H10; iintro H10
  iapply (send_step P K c (x := (1, 0)) (rect_set (s := 1) (1, 0) rfl rows0) (dev7_eq c) rfl rfl rfl) $$ HR H10 HO; iintro H10 HO
  iapply (fill_step P c (x := (1, 1)) (rect_set (s := 1) (1, 1) rfl rows1) (fill_fourth (step1 P c))) $$ H11; iintro H11
  rw [wp_ret, step1]; imodintro
  rw [wp_bind, k0_part10_eq_skeleton]; unfold k0_part10_skel
  simp only [Prog.lift, Prog.bind_op, Prog.bind_ret, Prog.pure_eq_ret]
  iapply (send_step P K c (x := (1, 1)) (rect_set (s := 1) (1, 1) rfl rows1) (dev8_eq c) rfl rfl rfl) $$ HR H11 HO; iintro H11 HO
  iapply (fill_step P c (x := (1, 2)) (rect_set (s := 1) (1, 2) rfl rows2) (store80 P 1 c 176 _ _)) $$ H12; iintro H12
  iapply (send_step P K c (x := (1, 2)) (rect_set (s := 1) (1, 2) rfl rows2) (dev9_eq c) rfl rfl rfl) $$ HR H12 HO; iintro H12 HO
  iapply (waitSend_step P K c (x := (1, 0)) (by decide) rfl rfl) $$ HR HL H10 HO; iintro H10 HO
  rw [wp_ret]; imodintro
  rw [wp_bind, k0_part11_eq_skeleton]; unfold k0_part11_skel
  simp only [Prog.lift, Prog.bind_op, Prog.bind_ret, Prog.pure_eq_ret]
  iapply (waitRecv_step P K c (x := (1, 0)) (by decide) rfl rfl) $$ HR HL H10 HO; iintro H10 HO
  iapply (read_step P c (x := (1, 0)) (rect_set (s := 1) (1, 0) rfl rows0)) $$ H10; iintro H10
  iapply (waitSend_step P K c (x := (1, 1)) (by decide) rfl rfl) $$ HR HL H11 HO; iintro H11 HO
  rw [wp_ret]; imodintro
  rw [wp_bind, k0_part12_eq_skeleton]; unfold k0_part12_skel
  simp only [Prog.lift, Prog.bind_op, Prog.bind_ret, Prog.pure_eq_ret]
  iapply (waitRecv_step P K c (x := (1, 1)) (by decide) rfl rfl) $$ HR HL H11 HO; iintro H11 HO
  iapply (read_step P c (x := (1, 1)) (rect_set (s := 1) (1, 1) rfl rows1)) $$ H11; iintro H11
  iapply (waitSend_step P K c (x := (1, 2)) (by decide) rfl rfl) $$ HR HL H12 HO; iintro H12 HO
  iapply (waitRecv_step P K c (x := (1, 2)) (by decide) rfl rfl) $$ HR HL H12 HO; iintro H12 HO
  iapply (read_step P c (x := (1, 2)) (rect_set (s := 1) (1, 2) rfl rows2)) $$ H12; iintro H12
  rw [wp_ret, step2]; imodintro
  -- step 2
  rw [wp_bind, k0_part13_eq_skeleton]; unfold k0_part13_skel
  simp only [Prog.lift, Prog.bind_op, Prog.bind_ret, Prog.pure_eq_ret]
  iapply (fill_step P c (x := (2, 0)) (rect_set (s := 2) (2, 0) rfl rows0) (store88 P 2 c 0 _ _)) $$ H20; iintro H20
  iapply (send_step P K c (x := (2, 0)) (rect_set (s := 2) (2, 0) rfl rows0) (dev10_eq c) rfl rfl rfl) $$ HR H20 HO; iintro H20 HO
  iapply (fill_step P c (x := (2, 1)) (rect_set (s := 2) (2, 1) rfl rows1) (store88 P 2 c 88 _ _)) $$ H21; iintro H21
  rw [wp_ret]; imodintro
  rw [wp_bind, k0_part14_eq_skeleton]; unfold k0_part14_skel
  simp only [Prog.lift, Prog.bind_op, Prog.bind_ret, Prog.pure_eq_ret]
  iapply (send_step P K c (x := (2, 1)) (rect_set (s := 2) (2, 1) rfl rows1) (dev11_eq c) rfl rfl rfl) $$ HR H21 HO; iintro H21 HO
  iapply (fill_step P c (x := (2, 2)) (rect_set (s := 2) (2, 2) rfl rows2) (store80 P 2 c 176 _ _)) $$ H22; iintro H22
  iapply (send_step P K c (x := (2, 2)) (rect_set (s := 2) (2, 2) rfl rows2) (dev12_eq c) rfl rfl rfl) $$ HR H22 HO; iintro H22 HO
  iapply (waitSend_step P K c (x := (2, 0)) (by decide) rfl rfl) $$ HR HL H20 HO; iintro H20 HO
  rw [wp_ret]; imodintro
  rw [wp_bind, k0_part15_eq_skeleton]; unfold k0_part15_skel
  simp only [Prog.lift, Prog.bind_op, Prog.bind_ret, Prog.pure_eq_ret]
  iapply (waitRecv_step P K c (x := (2, 0)) (by decide) rfl rfl) $$ HR HL H20 HO; iintro H20 HO
  iapply (read_step P c (x := (2, 0)) (rect_set (s := 2) (2, 0) rfl rows0)) $$ H20; iintro H20
  iapply (waitSend_step P K c (x := (2, 1)) (by decide) rfl rfl) $$ HR HL H21 HO; iintro H21 HO
  rw [wp_ret]; imodintro
  rw [wp_bind, k0_part16_eq_skeleton]; unfold k0_part16_skel
  simp only [Prog.lift, Prog.bind_op, Prog.bind_ret, Prog.pure_eq_ret]
  iapply (waitRecv_step P K c (x := (2, 1)) (by decide) rfl rfl) $$ HR HL H21 HO; iintro H21 HO
  iapply (read_step P c (x := (2, 1)) (rect_set (s := 2) (2, 1) rfl rows1)) $$ H21; iintro H21
  iapply (waitSend_step P K c (x := (2, 2)) (by decide) rfl rfl) $$ HR HL H22 HO; iintro H22 HO
  iapply (waitRecv_step P K c (x := (2, 2)) (by decide) rfl rfl) $$ HR HL H22 HO; iintro H22 HO
  iapply (read_step P c (x := (2, 2)) (rect_set (s := 2) (2, 2) rfl rows2)) $$ H22; iintro H22
  rw [wp_ret, step3]; imodintro
  -- the result
  iapply (wp_load 𝒱₀ (c : Thread nD τ) none Set.univ (m := Memref.whole cc0_stg5_0) (Finset.subset_univ _)) $$ H5; iintro H5
  iapply (wp_store 𝒱₀ (c : Thread nD τ) none Set.univ (m := Memref.whole cc0_stg5_0)
    (r := Rect.unit (s := S2x128x512) ![0, 0, 0] S2x128x512.size inb_S2x128x512_S2x128x512_0_0_0) (Mk := Finset.univ) (Finset.subset_univ _)) $$ H5; iintro H5
  rw [write_out, wp_ret]; imodintro
  iapply Hk
  unfold finish
  rw [bigSep_slots]
  isplitl [H00 H01 H02 H10 H11 H12 H20 H21 H22 HzB]
  · isplitr [HzB]
    · isplitl [H00]; · iexact H00
      isplitl [H01]; · iexact H01
      isplitl [H02]; · iexact H02
      isplitl [H10]; · iexact H10
      isplitl [H11]; · iexact H11
      isplitl [H12]; · iexact H12
      isplitl [H20]; · iexact H20
      isplitl [H21] <;> iassumption
    · iexact HzB
  isplitl [HO]; · iexact HO
  isplitl [H0]; · iexact H0
  isplitl [H1]; · iexact H1
  isplitl [H2]; · iexact H2
  isplitl [H3]; · iexact H3
  isplitl [H4] <;> iassumption

end Run
end Cert.KernelIdealProof
end
-- ==== Proof.Region.lean ====
/-
The kernel call as one region of the program: what its six windows hold before and after, and the body's run on every
device read as the region's obligation.
-/
module

public import proofs.«01_k».proof.Proof.Body
public import proofs.«01_k».proof.Proof.Gen.KernelIdeal.Regions
public import Idealize.ShloMosaic.Lib.Pipeline.RegionTalk

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (Vin : Dev nD → Valuation τ sig (Elt F))

/-! ## Contents -/

/-- The partial product device `c` computes from what its windows hold. -/
def partOf (c : Dev nD) : FVec F S256x512 .f32 :=
  part (Vin c main_arg0) (Vin c main_v9) (Vin c main_v15) (Vin c main_v16) (Vin c main_v14)

/-- Device `c`'s buffers after the kernel call: the result holds the sum of all devices' partial products. -/
def Vout (c : Dev nD) : Valuation τ sig (Elt F) := Function.update (Vin c) main_v17 (out (partOf Vin) c)

theorem Vout_res (c : Dev nD) : Vout Vin c main_v17 = out (partOf Vin) c := Function.update_self ..
theorem Vout_of (c : Dev nD) {r : Ref sig .tc} (h : r ≠ main_v17) : Vout Vin c r = Vin c r :=
  Function.update_of_ne (StableHlo.devRef_ne_of_ne h) ..
theorem Vout_of_ne (c : Dev nD) {b : DevRef τ sig} (h : b ≠ Proc.devRef .tc main_v17) : Vout Vin c b = Vin c b :=
  Function.update_of_ne h ..

/-! ## The region's data -/

/-- What a device brings to the kernel call besides its buffers. -/
def enters (c : Dev nD) : sProp 𝕄 := iprop((∃ r, prngReg c r) ∗ ∃ K, start (partOf Vin) K c)
/-- What it leaves with. -/
def leaves (c : Dev nD) : sProp 𝕄 := iprop((∃ r, prngReg c r) ∗ finish (partOf Vin) c)

def pdats (p : Fin 1) (c : Dev nD) : Dat τ (Elt F) Unit ℕ UU ℕ (Pipeline.pin (pcfgs (F := F)) adm p) c where
  A w := Vin c (Proc.devRef .tc ((cfg0.win w).arr.view.ref))
  after w _ := match w with
    | ⟨0, _⟩ => Vin c main_arg0
    | ⟨1, _⟩ => Vin c main_v9
    | ⟨2, _⟩ => Vin c main_v15
    | ⟨3, _⟩ => Vin c main_v16
    | ⟨4, _⟩ => Vin c main_v14
    | ⟨5, _⟩ => out (partOf Vin) c
  Φ t := if t.val = 0 then enters Vin c else leaves Vin c
  q _ := fullShare
  owed t := if t.val = 0 then O₀ c else 0

theorem share_eq (c : Dev nD) (w : Fin (Pipeline.pin (pcfgs (F := F)) adm 0).W) : (pdats Vin 0 c).share w = fullShare := by
  unfold Dat.share; split <;> rfl

theorem owns_stg (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ stg c b f) := by
  unfold owns stg; simp only [Memref.view_whole, View.read_whole, View.set_whole]

omit [FloatOps F] in
/-- Every window but the last is filled before the body runs. -/
theorem fetch_in : ∀ w : Fin 6, w ≠ 5 → (cfg0.win w).fetch t0_0 = true := by decide

theorem before_0 (c : Dev nD) (d) : (pdats Vin 0 c).before (0 : Fin 6) t0_0 d = Vin c main_arg0 :=
  (if_pos (fetch_in 0 (by decide))).trans ((show (pdats Vin 0 c).fetched (0 : Fin 6) t0_0 d = (win0_0.blk t0_0).view.read (Elt F) (Vin c main_arg0) from rfl).trans
    (Memref.read_access_unit_zero (Elt F) main_arg0 (funext fun a => Nat.zero_mul _) _ _))
theorem before_1 (c : Dev nD) (d) : (pdats Vin 0 c).before (1 : Fin 6) t0_0 d = Vin c main_v9 :=
  (if_pos (fetch_in 1 (by decide))).trans ((show (pdats Vin 0 c).fetched (1 : Fin 6) t0_0 d = (win0_1.blk t0_0).view.read (Elt F) (Vin c main_v9) from rfl).trans
    (Memref.read_access_unit_zero (Elt F) main_v9 (funext fun a => Nat.zero_mul _) _ _))
theorem before_2 (c : Dev nD) (d) : (pdats Vin 0 c).before (2 : Fin 6) t0_0 d = Vin c main_v15 :=
  (if_pos (fetch_in 2 (by decide))).trans ((show (pdats Vin 0 c).fetched (2 : Fin 6) t0_0 d = (win0_2.blk t0_0).view.read (Elt F) (Vin c main_v15) from rfl).trans
    (Memref.read_access_unit_zero (Elt F) main_v15 (funext fun a => Nat.zero_mul _) _ _))
theorem before_3 (c : Dev nD) (d) : (pdats Vin 0 c).before (3 : Fin 6) t0_0 d = Vin c main_v16 :=
  (if_pos (fetch_in 3 (by decide))).trans ((show (pdats Vin 0 c).fetched (3 : Fin 6) t0_0 d = (win0_3.blk t0_0).view.read (Elt F) (Vin c main_v16) from rfl).trans
    (Memref.read_access_unit_zero (Elt F) main_v16 (funext fun a => Nat.zero_mul _) _ _))
theorem before_4 (c : Dev nD) (d) : (pdats Vin 0 c).before (4 : Fin 6) t0_0 d = Vin c main_v14 :=
  (if_pos (fetch_in 4 (by decide))).trans ((show (pdats Vin 0 c).fetched (4 : Fin 6) t0_0 d = (win0_4.blk t0_0).view.read (Elt F) (Vin c main_v14) from rfl).trans
    (Memref.read_access_unit_zero (Elt F) main_v14 (funext fun a => Nat.zero_mul _) _ _))

/-! ## The arrays after the call -/

/-- An input's array is as it was; the result's array is what the body left in its window. -/
theorem arrAt_N (c : Dev nD) (w : Fin 6) :
    (pdats Vin 0 c).arrAt w (Pipeline.pin (pcfgs (F := F)) adm 0).N = Vout Vin c (Proc.devRef .tc (Pipeline.arrRef (Pipeline.pin (pcfgs (F := F)) adm 0).spec w)) := by
  have hin (w : Fin 6) (hw : (cfg0.win w).isOut = false) (hne : Pipeline.arrRef spec0 w ≠ main_v17) :
      (pdats Vin 0 c).arrAt w (Pipeline.pin (pcfgs (F := F)) adm 0).N = Vout Vin c (Proc.devRef .tc (Pipeline.arrRef spec0 w)) :=
    ((pdats Vin 0 c).arrAt_in w hw _).trans (Vout_of Vin c hne).symm
  fin_cases w
  · exact hin 0 rfl (by decide)
  · exact hin 1 rfl (by decide)
  · exact hin 2 rfl (by decide)
  · exact hin 3 rfl (by decide)
  · exact hin 4 rfl (by decide)
  · refine Eq.trans ?_ (Vout_res Vin c).symm
    refine ((pdats Vin 0 c).arrAt_succ (5 : Fin 6) t0_0).trans ((if_pos (by rfl)).trans ?_)
    exact Memref.write_access_unit_zero_univ (Elt F) main_v17 (funext fun a => Nat.zero_mul _) _ _ _

/-! ## The body's obligation -/

theorem owesAt_intro (c : Dev nD) (t) (O : CellTallies nD τ sig Unit) (h : (pdats Vin 0 c).owed t = O) :
    iprop(∃ W, owes (c : Thread nD τ) O W) ⊢ ((pdats Vin 0 c).owesAt () t : sProp 𝕄) := by
  unfold Dat.owesAt Pipeline.owesWithin
  rw [h]
  iintro ⟨%W, HO⟩
  iexists W
  isplitr; · ipureintro; exact fun _ _ => Or.inl trivial
  iexact HO

/-- What the library asks of the body on device `c`. -/
theorem body_obligation (c : Dev nD) : BodyObligation (pdats Vin 0 c) (defs₀ (F := F)) 𝒱₀ () Set.univ := fun t => by
  obtain rfl := fin_N0 t
  rw [bigSep_W0, bigSep_W0]
  simp only [owns_stg]
  show iprop(enters Vin c ∗ (pdats Vin 0 c).owesAt () t0_0.castSucc
      ∗ (∃ d, ∃ f, ⌜f = (pdats Vin 0 c).before (0 : Fin 6) t0_0 d⌝ ∗ stg c cc0_stg0_0 f)
      ∗ (∃ d, ∃ f, ⌜f = (pdats Vin 0 c).before (1 : Fin 6) t0_0 d⌝ ∗ stg c cc0_stg1_0 f)
      ∗ (∃ d, ∃ f, ⌜f = (pdats Vin 0 c).before (2 : Fin 6) t0_0 d⌝ ∗ stg c cc0_stg2_0 f)
      ∗ (∃ d, ∃ f, ⌜f = (pdats Vin 0 c).before (3 : Fin 6) t0_0 d⌝ ∗ stg c cc0_stg3_0 f)
      ∗ (∃ d, ∃ f, ⌜f = (pdats Vin 0 c).before (4 : Fin 6) t0_0 d⌝ ∗ stg c cc0_stg4_0 f)
      ∗ (∃ d, ∃ f, ⌜f = (pdats Vin 0 c).before (5 : Fin 6) t0_0 d⌝ ∗ stg c cc0_stg5_0 f))
    ⊢ wp frame (wpE (defs₀ (F := F)) 𝒱₀ c none) Set.univ
      (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3)
      (fun _ => iprop(leaves Vin c ∗ (pdats Vin 0 c).owesAt () t0_0.succ
        ∗ (∃ f, ⌜f = Vin c main_arg0⌝ ∗ stg c cc0_stg0_0 f) ∗ (∃ f, ⌜f = Vin c main_v9⌝ ∗ stg c cc0_stg1_0 f)
        ∗ (∃ f, ⌜f = Vin c main_v15⌝ ∗ stg c cc0_stg2_0 f) ∗ (∃ f, ⌜f = Vin c main_v16⌝ ∗ stg c cc0_stg3_0 f)
        ∗ (∃ f, ⌜f = Vin c main_v14⌝ ∗ stg c cc0_stg4_0 f) ∗ (∃ f, ⌜f = out (partOf Vin) c⌝ ∗ stg c cc0_stg5_0 f)))
  simp only [before_0, before_1, before_2, before_3, before_4]
  unfold enters leaves
  iintro ⟨⟨Hp, ⟨%K, Hst⟩⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  subst h0 h1 h2 h3 h4
  unfold Dat.owesAt Pipeline.owesWithin
  icases Ho with ⟨%W, %hW, HO⟩
  rw [show (pdats Vin 0 c).owed t0_0.castSucc = O₀ c from rfl]
  iapply (sound_body (partOf Vin) K c _ _ _ _ _ rfl f5 W)
  isplitr [Hp]
  · isplitl [Hst]; · iexact Hst
    isplitl [HO]; · iexact HO
    isplitl [H0]; · iexact H0
    isplitl [H1]; · iexact H1
    isplitl [H2]; · iexact H2
    isplitl [H3]; · iexact H3
    isplitl [H4]; · iexact H4
    iexact H5
  iintro ⟨Hf, HO, H0, H1, H2, H3, H4, H5⟩
  isplitl [Hp Hf]
  · isplitl [Hp]; · iexact Hp
    iexact Hf
  isplitl [HO]
  · iapply (owesAt_intro Vin c t0_0.succ 0 rfl)
    unfold owing; iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

end Cert.KernelIdealProof
end
-- ==== Proof.Opening.lean ====
/-
Entering and leaving the kernel call. The exchange's eighteen copy semaphores are opened on entry and are at zero again
on exit; the two scratch buffers are cut into slots on entry and joined again on exit.
-/
module

public import proofs.«01_k».proof.Proof.Region

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (P : Dev nD → FVec F S256x512 .f32) (Vin : Dev nD → Valuation τ sig (Elt F)) (c : Dev nD)

/-! ## The scratch buffers as slots -/

omit [FloatOps F] in
/-- The sending buffer held whole is its slots held one by one. -/
theorem cut_send (f : S3x256x512.Idx → F .bf16) :
    (((c : Thread nD τ).loc cc0_scratch0) ↦{fullShare} (f : Buf (Elt F) ((c : Thread nD τ).loc cc0_scratch0)) : sProp 𝕄)
      = bigSep Finset.univ fun x => sendPts (F := F) c x f :=
  (congrArg (fun S : Finset (Idx ((c : Thread nD τ).loc cc0_scratch0)) => (((c : Thread nD τ).loc cc0_scratch0) ↦[S]{fullShare} f : sProp 𝕄)) slotSet_cover.symm).trans
    (pointsTo_biUnion (ℓ := (c : Thread nD τ).loc cc0_scratch0) (Finset.univ : Finset Slot) slotSet fun _ _ _ _ h => slotSet_disjoint h)

omit [FloatOps F] in
/-- The receiving buffer likewise. -/
theorem cut_recv (f : S3x256x512.Idx → F .bf16) :
    (((c : Thread nD τ).loc cc0_scratch1) ↦{fullShare} (f : Buf (Elt F) ((c : Thread nD τ).loc cc0_scratch1)) : sProp 𝕄)
      = bigSep Finset.univ fun x => recvPts (F := F) c x f :=
  (congrArg (fun S : Finset (Idx ((c : Thread nD τ).loc cc0_scratch1)) => (((c : Thread nD τ).loc cc0_scratch1) ↦[S]{fullShare} f : sProp 𝕄)) slotSet_cover.symm).trans
    (pointsTo_biUnion (ℓ := (c : Thread nD τ).loc cc0_scratch1) (Finset.univ : Finset Slot) slotSet fun _ _ _ _ h => slotSet_disjoint h)

/-! ## The copy semaphores -/

/-- The kernel's own scoped semaphores: one for each slot's departure, one for each slot's arrival. -/
abbrev osem : Slot ⊕ Slot → SemLoc sig := fun i => csem (.inr i)

theorem own_sems : Pipeline.OwnSemFacts spec0 osem := by decide

omit [FloatOps F] in
theorem ownSems_eq : (Pipeline.ownSems0 osem c : sProp 𝕄)
    = iprop((bigSep Finset.univ fun x => semVal (sendCell c x) 0) ∗ bigSep Finset.univ fun x => semVal (recvCell c x) 0) := by
  unfold Pipeline.ownSems0; exact bigSep_univ_sum _

/-! ## What a device brings to the call and what it takes from it -/

/-- What the launch keeps for a device: the records, the rights to open its copy semaphores, the rights to pay and the
    credits of its copies, its position and credit on its barrier semaphore, the rights to pay its partners' barriers. -/
def kept (K : GSem nD τ sig → ℕ) : sProp 𝕄 :=
  iprop(records P K
    ∗ ((bigSep Finset.univ fun x => openTok ER (sendCell c x)) ∗ bigSep Finset.univ fun x => openTok ER (recvCell c x))
    ∗ (bigSep Finset.univ fun x => iprop((dutyTok ER (sendCell c x) 0 0 ∗ dutyTok ER (recvCell (peer (ax x) c) x) 0 0) ∗ cred (tallyAt (recvCell c x) () (N x))))
    ∗ (atPos ER (barCell c) 0 ∅ 0 ∗ cred (tallyAt (barCell c) () 3))
    ∗ (bigSep Finset.univ fun k : Fin 3 => dutyTok ER (barCell (peer k c)) 0 k))

/-- The same with the copy semaphores opened, each at its first round. -/
def opened (K : GSem nD τ sig → ℕ) : sProp 𝕄 :=
  iprop(records P K ∗ levAts L lv
    ∗ ((bigSep Finset.univ fun x => iprop(atPos ER (sendCell c x) 0 ∅ 0 ∗ reached ER (sendCell c x) 0))
      ∗ bigSep Finset.univ fun x => iprop(atPos ER (recvCell c x) 0 ∅ 0 ∗ reached ER (recvCell c x) 0))
    ∗ (bigSep Finset.univ fun x => iprop((dutyTok ER (sendCell c x) 0 0 ∗ dutyTok ER (recvCell (peer (ax x) c) x) 0 0) ∗ cred (tallyAt (recvCell c x) () (N x))))
    ∗ (atPos ER (barCell c) 0 ∅ 0 ∗ cred (tallyAt (barCell c) () 3))
    ∗ (bigSep Finset.univ fun k : Fin 3 => dutyTok ER (barCell (peer k c)) 0 k))

/-- Opening one family of cells, the invariants among the records. -/
theorem open_cells (K : GSem nD τ sig → ℕ) (i : Slot → Cx) :
    iprop(records P K ∗ bigSep Finset.univ fun x => iprop(openTok ER (kcell (c, i x)) ∗ semVal (kcell (c, i x)) 0))
      ⊢ (|={Set.univ}=> bigSep Finset.univ fun x => iprop(atPos ER (kcell (c, i x)) 0 ∅ 0 ∗ reached ER (kcell (c, i x)) 0) : sProp 𝕄) := by
  refine (bigSep_with_persistent (R := records P K)
    (Ψ := fun x => iprop(|={Set.univ}=> (atPos ER (kcell (c, i x)) 0 ∅ 0 ∗ reached ER (kcell (c, i x)) 0))) fun x _ => ?_).trans (bigSep_fupd _ _)
  iintro ⟨#HR, Ho, Hs⟩
  iapply (Rounds.cell_open ER (Rd P) (g := kcell (c, i x)) (Set.mem_univ (K (kcell (c, i x)))))
  isplitr; · iapply (records_inv P K (c, i x)); iexact HR
  isplitl [Ho] <;> iassumption

/-- The opening, on entry to the call. -/
theorem entry : iprop((∃ K, kept P c K) ∗ Pipeline.ownSems0 osem c ∗ levAts L lv) ⊢ (|={Set.univ}=> ∃ K, opened P c K : sProp 𝕄) := by
  rw [ownSems_eq]
  unfold kept opened
  iintro ⟨⟨%K, #HR, ⟨HoS, HoR⟩, Ht, Hb, Hd⟩, ⟨HsS, HsR⟩, #Hlev⟩
  imod (open_cells P c K fun x => .inr (.inl x)) $$ [HoS HsS] with HS
  · isplitr; · iexact HR
    iapply (Entails.of_eq (bigSep_sep' ..).symm); isplitl [HoS] <;> iassumption
  imod (open_cells P c K fun x => .inr (.inr x)) $$ [HoR HsR] with HV
  · isplitr; · iexact HR
    iapply (Entails.of_eq (bigSep_sep' ..).symm); isplitl [HoR] <;> iassumption
  imodintro
  iexists K
  isplitr; · iexact HR
  isplitr; · iexact Hlev
  isplitl [HS HV]; · isplitl [HS] <;> iassumption
  isplitl [Ht]; · iexact Ht
  isplitl [Hb] <;> iassumption

/-- One slot made ready from the pieces of the two scratch buffers. -/
theorem slot_intro (f g : S3x256x512.Idx → F .bf16) (x : Slot) :
    iprop((sendPts c x f ∗ recvPts c x g) ∗ ((atPos ER (sendCell c x) 0 ∅ 0 ∗ reached ER (sendCell c x) 0) ∗ (atPos ER (recvCell c x) 0 ∅ 0 ∗ reached ER (recvCell c x) 0))
        ∗ ((dutyTok ER (sendCell c x) 0 0 ∗ dutyTok ER (recvCell (peer (ax x) c) x) 0 0) ∗ cred (tallyAt (recvCell c x) () (N x))))
      ⊢ (iprop(idle c x ∗ ready c x) : sProp 𝕄) := by
  unfold idle ready
  iintro ⟨⟨Hs, Hr⟩, ⟨⟨HaS, HrS⟩, ⟨HaV, HrV⟩⟩, ⟨Ht, Hc⟩⟩
  isplitr [Hr HrV]
  · isplitl [Hs]; · iexists f; iexact Hs
    isplitl [HaS HaV]; · isplitl [HaS] <;> iassumption
    isplitl [HrS]; · iexact HrS
    isplitl [Ht] <;> iassumption
  · isplitl [Hr]; · iexists g; iexact Hr
    iexact HrV

/-- Into the call. -/
theorem body_in : iprop(Pipeline.scopedRest spec0 c ∗ (∃ r, prngReg c r) ∗ StableHlo.held (c : Thread nD τ) ∅ (Vin c) ∗ ∃ K, opened (partOf Vin) c K)
    ⊢ (enters Vin c : sProp 𝕄) := by
  rw [scopedRest0_eq]
  unfold enters opened start
  iintro ⟨⟨⟨%f, Hf⟩, ⟨%g, Hg⟩⟩, Hp, -, ⟨%K, #HR, #Hlev, ⟨HS, HV⟩, Ht, Hb, Hd⟩⟩
  isplitl [Hp]; · iexact Hp
  iexists K
  ihave Hf := Entails.of_eq (cut_send c f) $$ Hf
  ihave Hg := Entails.of_eq (cut_recv c g) $$ Hg
  ihave H := (show iprop((bigSep Finset.univ fun x => sendPts c x f) ∗ (bigSep Finset.univ fun x => recvPts c x g)
      ∗ ((bigSep Finset.univ fun x => iprop(atPos ER (sendCell c x) 0 ∅ 0 ∗ reached ER (sendCell c x) 0))
        ∗ bigSep Finset.univ fun x => iprop(atPos ER (recvCell c x) 0 ∅ 0 ∗ reached ER (recvCell c x) 0))
      ∗ (bigSep Finset.univ fun x => iprop((dutyTok ER (sendCell c x) 0 0 ∗ dutyTok ER (recvCell (peer (ax x) c) x) 0 0) ∗ cred (tallyAt (recvCell c x) () (N x)))))
    ⊢ (iprop((bigSep Finset.univ fun x => idle c x) ∗ bigSep Finset.univ fun x => ready c x) : sProp 𝕄) from by
      rw [← bigSep_sep', ← bigSep_sep', ← bigSep_sep', ← bigSep_sep', ← bigSep_sep']
      exact bigSep_mono fun x _ => sep_assoc.2.trans (slot_intro c f g x)) $$ [Hf Hg HS HV Ht]
  · isplitl [Hf]; · iexact Hf
    isplitl [Hg]; · iexact Hg
    isplitl [HS HV]; · isplitl [HS] <;> iassumption
    iexact Ht
  icases H with ⟨Hi, Hr⟩
  isplitr; · iexact HR
  isplitr; · iexact Hlev
  isplitl [Hi]; · iexact Hi
  isplitl [Hr]; · iexact Hr
  isplitl [Hb] <;> iassumption

/-- Out of the call. -/
theorem body_out (V : Valuation τ sig (Elt F)) : (leaves Vin c : sProp 𝕄)
    ⊢ iprop(Pipeline.scopedRest spec0 c ∗ (∃ r, prngReg c r) ∗ StableHlo.held (c : Thread nD τ) ∅ V ∗ Pipeline.ownSems0 osem c ∗ semVal (barCell c) 0) := by
  rw [scopedRest0_eq, ownSems_eq]
  unfold leaves finish done
  rw [bigSep_sep', bigSep_sep', bigSep_sep']
  iintro ⟨Hp, ⟨⟨Hs, HsS⟩, ⟨Hr, HsR⟩⟩, Hb⟩
  ihave Hs := Entails.of_eq (cut_send c (sent (partOf Vin) c)).symm $$ Hs
  ihave Hr := Entails.of_eq (cut_recv c (landed (partOf Vin) c)).symm $$ Hr
  isplitl [Hs Hr]
  · isplitl [Hs]; · iexists _; iexact Hs
    iexists _; iexact Hr
  isplitl [Hp]; · iexact Hp
  isplitr; · unfold StableHlo.held; rw [bigSep_empty]; iempintro
  isplitl [HsS HsR]; · isplitl [HsS] <;> iassumption
  iexact Hb

end Cert.KernelIdealProof
end
-- ==== Proof.Call.lean ====
/-
The kernel call as one segment of the program: it is entered holding every buffer the call can see and what the launch
keeps for the exchange, and left with the result written, the barrier semaphore at zero and nothing owed.
-/
module

public import proofs.«01_k».proof.Proof.Opening

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (Vin : Dev nD → Valuation τ sig (Elt F)) (c : Dev nD)

/-- The buffers the call's windows do not stand over. -/
def beside : Finset (DevRef τ sig) := Pipeline.ucRefs τ sig \ Pipeline.arrRefs spec0

/-- The call changes none of them. -/
theorem beside_unchanged {b : DevRef τ sig} (hb : b ∈ beside \ ∅) : Vout Vin c b = Vin c b :=
  Vout_of_ne Vin c fun h => (Finset.mem_sdiff.mp (Finset.mem_sdiff.mp hb).1).2 (h ▸ (by decide : Proc.devRef .tc main_v17 ∈ Pipeline.arrRefs (τ := τ) spec0))

/-- Staging semaphores lie below everything a device owes. -/
theorem owed_above {g : GSem nD τ sig} {u : Unit} (t : Fin ((cfgs 0).N + 1)) (h : 0 < (pdats Vin 0 c).owed t g u) :
    u ∈ L g ∧ 0 < lv g u := by
  change 0 < (if t.val = 0 then O₀ c else 0) g u at h
  split at h
  · rcases O₀_pos h with ⟨y, rfl⟩ | ⟨k, rfl⟩
    · exact ⟨by rw [L_tc]; exact Finset.mem_singleton_self _, by unfold lv; rw [kind_recv]; exact Nat.lt_of_lt_of_le Nat.two_pos (Nat.le_add_right _ _)⟩
    · exact ⟨by rw [L_tc]; exact Finset.mem_singleton_self _, by unfold lv; rw [kind_bar]; exact Nat.one_pos⟩
  · exact absurd h (Nat.lt_irrefl 0)

theorem staging_low (w : Fin 6) (s : Fin (spec0 w).nbuf) : lvOf (kind (SemLoc.dma ((spec0 w).sem s) : SemLoc sig)) ≤ 0 := by
  revert w s; decide

set_option backward.isDefEq.respectTransparency.types false in
/-- The call's record. -/
def call : Pipeline.RegionSeg (pcfgs (F := F)) adm (pdats Vin) () defs₀ 𝒱₀ L lv 0 :=
  Pipeline.RegionSeg.ofTalk (pcfgs (F := F)) adm (pdats Vin) () defs₀ 𝒱₀ L lv 0 osem own_sems
    ∅ beside (Finset.empty_subset _) launch0.toP rfl (fun c => (body_obligation Vin c).loose)
    (fun _ => 0) O₀ (fun c => (zero_add _).symm) (fun c => rfl) (fun _ => rfl) (fun c w => share_eq Vin c w)
    Vin (Vout Vin) (fun c b hb => beside_unchanged Vin c hb)
    (fun c => iprop(∃ K, kept (partOf Vin) c K)) (fun c => semVal (barCell c) 0)
    (fun c => iprop(∃ K, opened (partOf Vin) c K)) (fun c => semVal (barCell c) 0)
    (fun c => entry (partOf Vin) c) (fun c => body_in Vin c) (fun c => body_out Vin c (Vout Vin c))
    (fun c => by iintro H; imodintro; iexact H)
    (fun _ => 0)
    ⟨fun c w s => by rw [L_tc]; exact Finset.mem_singleton_self _, fun c w s => staging_low w s, fun c t g i h => owed_above Vin c t h⟩
    (fun _ => iprop(emp))
    (fun _ _ => rfl) (fun c w => arrAt_N Vin c w)

/-- What a device holds of the exchange when the call starts. -/
def before : sProp 𝕄 :=
  iprop((∃ r, prngReg c r) ∗ (∃ K, kept (partOf Vin) c K) ∗ ∃ W, owes (c : Thread nD τ) (O₀ c) W)

theorem windows_sub : Pipeline.arrRefs (τ := τ) spec0 ⊆ Pipeline.ucRefs τ sig := by decide

set_option backward.isDefEq.respectTransparency.types false in
theorem call_pre : iprop(StableHlo.held (c : Thread nD τ) (Pipeline.ucRefs τ sig) (Vin c) ∗ before Vin c) ⊢ (call Vin).pre c := by
  show _ ⊢ iprop(StableHlo.held (c.tc : Thread nD τ) (Pipeline.arrRefs (τ := τ) spec0) (Vin c) ∗ (∃ r, prngReg c r)
    ∗ (StableHlo.held (c.tc : Thread nD τ) beside (Vin c) ∗ emp) ∗ (∃ K, kept (partOf Vin) c K) ∗ ∃ Wd, owes (c : Thread nD τ) (0 + O₀ c) Wd)
  rw [StableHlo.held_sub_split (c : Thread nD τ) windows_sub (Vin c), zero_add]
  unfold before
  iintro ⟨⟨Ha, Hb⟩, Hp, HK, HO⟩
  isplitl [Ha]; · iexact Ha
  isplitl [Hp]; · iexact Hp
  isplitl [Hb]
  · isplitl [Hb]; · iexact Hb
    iempintro
  isplitl [HK] <;> iassumption

set_option backward.isDefEq.respectTransparency.types false in
theorem call_post : (call Vin).post c
    ⊢ iprop((StableHlo.held (c : Thread nD τ) (Pipeline.ucRefs τ sig) (Vout Vin c) ∗ semVal (barCell c) 0)
      ∗ ∃ W, owes (c : Thread nD τ) (0 : CellTallies nD τ sig Unit) W) := by
  show iprop(StableHlo.held (c.tc : Thread nD τ) (Pipeline.arrRefs (τ := τ) spec0) (Vout Vin c) ∗ (∃ r, prngReg c r)
    ∗ (StableHlo.held (c.tc : Thread nD τ) beside (Vout Vin c) ∗ emp) ∗ semVal (barCell c) 0
    ∗ ∃ Wd, owes (c : Thread nD τ) (0 : CellTallies nD τ sig Unit) Wd) ⊢ _
  rw [StableHlo.held_sub_split (c : Thread nD τ) windows_sub (Vout Vin c)]
  iintro ⟨Ha, -, ⟨Hb, -⟩, Hs, HO⟩
  isplitr [HO]
  · isplitr [Hs]
    · isplitl [Ha]; · iexact Ha
      iexact Hb
    iexact Hs
  iexact HO

end Cert.KernelIdealProof

end
-- ==== Proof.Launch.lean ====
/-
The launch: the tokens and credits the machine starts with, dealt to the devices as the exchange needs them. Every duty's
token is made with the cell it is paid on; the tokens of the barrier and of the arrivals then go to the partner that pays.
-/
module

public import proofs.«01_k».proof.Proof.Call

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the tokens -/

theorem csem_injective : Function.Injective csem := by decide

theorem kcell_injective : Function.Injective kcell := fun i j h =>
  Prod.ext (congrArg (fun g : GSem nD τ sig => g.1.1) h) (csem_injective (congrArg Prod.snd h))

/-- The barrier cells: live from the launch. -/
def barEmb : Dev nD ↪ GSem nD τ sig := ⟨fun c => kcell (c, .inl ()), fun _ _ h => congrArg Prod.fst (kcell_injective h)⟩
/-- The copies' cells: opened when the call is entered. -/
def copyEmb : Dev nD × (Slot ⊕ Slot) ↪ GSem nD τ sig :=
  ⟨fun i => kcell (i.1, .inr i.2), fun i j h => by
    have e := kcell_injective h
    exact Prod.ext (congrArg (fun q : Dev nD × Cx => q.1) e) (Sum.inr_injective (congrArg Prod.snd e))⟩

abbrev barCells : Finset (GSem nD τ sig) := Finset.univ.map barEmb
abbrev copyCells : Finset (GSem nD τ sig) := Finset.univ.map copyEmb

theorem cells_disjoint : Disjoint barCells copyCells := by
  rw [Finset.disjoint_left]
  rintro g h₁ h₂
  obtain ⟨c, -, rfl⟩ := Finset.mem_map.mp h₁
  obtain ⟨i, -, h⟩ := Finset.mem_map.mp h₂
  exact Sum.inr_ne_inl (congrArg Prod.snd (kcell_injective h))

/-- A duty of one device: one of three on its barrier, or a slot's departure, or a slot's arrival. -/
abbrev Duty : Type := Fin 3 ⊕ (Slot ⊕ Slot)
abbrev dutyCx : Duty → Cx := Sum.elim (fun _ => .inl ()) .inr
abbrev dutyNo : Duty → Fin 3 := Sum.elim id fun _ => 0

theorem duty_injective : Function.Injective fun d : Duty => (dutyCx d, dutyNo d) := by decide

/-- The tokens, one for each duty of each device. -/
def dutyEmb : Dev nD × Duty ↪ GSem nD τ sig × ℕ × Fin 3 :=
  ⟨fun i => (kcell (i.1, dutyCx i.2), 0, dutyNo i.2), fun _ _ h => by
    have e := kcell_injective (congrArg Prod.fst h)
    exact Prod.ext (congrArg (fun q : Dev nD × Cx => q.1) e)
      (duty_injective (Prod.ext (congrArg Prod.snd e) (congrArg (fun t : GSem nD τ sig × ℕ × Fin 3 => t.2.2) h)))⟩

abbrev tokens : Finset (GSem nD τ sig × ℕ × Fin 3) := Finset.univ.map dutyEmb

section Ghost
variable (P : Dev nD → FVec F S256x512 .f32)

/-- What is one device's alone among what the launch keeps for it. -/
def own (c : Dev nD) : sProp 𝕄 :=
  iprop(((bigSep Finset.univ fun x => openTok ER (sendCell c x)) ∗ bigSep Finset.univ fun x => openTok ER (recvCell c x))
    ∗ ((bigSep Finset.univ fun x => dutyTok ER (sendCell c x) 0 (0 : Fin 3)) ∗ bigSep Finset.univ fun x => dutyTok ER (recvCell (peer (ax x) c) x) 0 (0 : Fin 3))
    ∗ atPos ER (barCell c) 0 ∅ 0
    ∗ (bigSep Finset.univ fun k : Fin 3 => dutyTok ER (barCell (peer k c)) 0 k))

/-- The credits a device waits against. -/
def credits (c : Dev nD) : sProp 𝕄 :=
  iprop(cred (tallyAt (barCell c) () 3) ∗ bigSep Finset.univ fun x => cred (tallyAt (recvCell c x) () (N x)))

theorem kept_intro (K : GSem nD τ sig → ℕ) (c : Dev nD) : iprop(records P K ∗ own c ∗ credits c) ⊢ (kept P c K : sProp 𝕄) := by
  unfold own credits kept
  iintro ⟨#HR, ⟨Ho, ⟨Hs, Hr⟩, Ha, Hd⟩, Hb, Hc⟩
  isplitr; · iexact HR
  isplitl [Ho]; · iexact Ho
  isplitl [Hs Hr Hc]
  · iapply (Entails.of_eq (bigSep_sep' ..).symm)
    isplitl [Hs Hr]
    · iapply (Entails.of_eq (bigSep_sep' ..).symm)
      isplitl [Hs] <;> iassumption
    · iexact Hc
  isplitl [Ha Hb]
  · isplitl [Ha] <;> iassumption
  iexact Hd

/-- Pairs of a device and an item, each device exchanged for the partner along the item's axis. -/
def partners {X : Type} (a : X → Fin 3) : Dev nD × X ≃ Dev nD × X :=
  ⟨fun i => (peer (a i.2) i.1, i.2), fun i => (peer (a i.2) i.1, i.2), fun i => Prod.ext (peer_peer _ _) rfl, fun i => Prod.ext (peer_peer _ _) rfl⟩

/-- A family over the devices and some items, each member moved to the partner along its item's axis. -/
theorem moved {X : Type} [Fintype X] [DecidableEq X] (a : X → Fin 3) (Φ : Dev nD → X → sProp 𝕄) :
    (bigSep Finset.univ fun c => bigSep Finset.univ fun x => Φ c x) = bigSep Finset.univ fun c => bigSep Finset.univ fun x => Φ (peer (a x) c) x :=
  (bigSep_univ_prod fun i : Dev nD × X => Φ i.1 i.2).symm.trans
    ((bigSep_univ_equiv (partners a) fun i : Dev nD × X => Φ i.1 i.2).trans (bigSep_univ_prod fun i : Dev nD × X => Φ (peer (a i.2) i.1) i.2))

/-- The tokens, in the hands of the devices that pay with them. -/
theorem tokens_dealt : (bigSep tokens fun x => (dutyTok ER x.1 x.2.1 x.2.2 : sProp 𝕄))
    = iprop((bigSep Finset.univ fun c : Dev nD => bigSep Finset.univ fun k : Fin 3 => dutyTok ER (barCell (peer k c)) 0 k)
      ∗ (bigSep Finset.univ fun c : Dev nD => bigSep Finset.univ fun x : Slot => dutyTok ER (sendCell c x) 0 (0 : Fin 3))
      ∗ bigSep Finset.univ fun c : Dev nD => bigSep Finset.univ fun x : Slot => dutyTok ER (recvCell (peer (ax x) c) x) 0 (0 : Fin 3)) := by
  rw [bigSep_map, bigSep_univ_prod, ← moved (fun k => k) fun c k => (dutyTok ER (barCell c) 0 k : sProp 𝕄),
    ← moved ax fun c x => (dutyTok ER (recvCell c x) 0 (0 : Fin 3) : sProp 𝕄), ← bigSep_sep', ← bigSep_sep']
  exact bigSep_congr fun c _ => (bigSep_univ_sum _).trans (congrArg (fun X : sProp 𝕄 => iprop((bigSep Finset.univ fun k : Fin 3 => dutyTok ER (barCell c) 0 k) ∗ X)) (bigSep_univ_sum _))

/-- The invariants, one for each cell of each device. -/
theorem cells_all (Φ : GSem nD τ sig → sProp 𝕄) : bigSep (barCells ∪ copyCells) Φ = bigSep Finset.univ fun i : Dev nD × Cx => Φ (kcell i) := by
  rw [bigSep_union cells_disjoint, bigSep_map, bigSep_map, bigSep_univ_prod, bigSep_univ_prod]
  refine (bigSep_sep' ..).symm.trans (bigSep_congr fun c _ => ((bigSep_univ_sum _).trans ?_).symm)
  rw [show (Finset.univ : Finset Unit) = {()} from rfl, bigSep_singleton]; rfl

/-- The launch of the exchange: from the barriers' counters at zero and the launch's tokens, every device gets its own. -/
theorem fund : iprop((bigSep Finset.univ fun c : Dev nD => semVal (barCell c) 0) ∗ BI.own (ER (launchOf barCells copyCells tokens)))
    ⊢ (|={Set.univ}=> ∃ K, records P K ∗ bigSep Finset.univ fun c => own c : sProp 𝕄) := by
  have hv : (bigSep Finset.univ fun c : Dev nD => (semVal (barCell c) 0 : sProp 𝕄)) ⊢ bigSep barCells fun g => (semVal g 0 : sProp 𝕄) :=
    Entails.of_eq (bigSep_map (s := Finset.univ) barEmb (Φ := fun g : GSem nD τ sig => (semVal g 0 : sProp 𝕄))).symm
  have hr : (bigSep barCells fun g => (reached ER g 0 : sProp 𝕄)) ⊢ bigSep Finset.univ fun c : Dev nD => (reached ER (barCell c) 0 : sProp 𝕄) :=
    Entails.of_eq (bigSep_map (s := Finset.univ) barEmb (Φ := fun g : GSem nD τ sig => (reached ER g 0 : sProp 𝕄)))
  have hat : (bigSep barCells fun g => (atPos ER g 0 ∅ 0 : sProp 𝕄)) ⊢ bigSep Finset.univ fun c : Dev nD => (atPos ER (barCell c) 0 ∅ 0 : sProp 𝕄) :=
    Entails.of_eq (bigSep_map (s := Finset.univ) barEmb (Φ := fun g : GSem nD τ sig => (atPos ER g 0 ∅ 0 : sProp 𝕄)))
  have hopen : (bigSep copyCells fun g => (openTok ER g : sProp 𝕄))
      ⊢ bigSep Finset.univ fun c : Dev nD => iprop((bigSep Finset.univ fun x => openTok ER (sendCell c x)) ∗ bigSep Finset.univ fun x => openTok ER (recvCell c x)) :=
    Entails.of_eq (by
      rw [bigSep_map, bigSep_univ_prod]
      exact bigSep_congr fun c _ => bigSep_univ_sum _)
  iintro ⟨Hv, Hu⟩
  imod (Rounds.fund_launch ER (Rd P) cells_disjoint (fun g _ h => h) tokens) $$ [Hv Hu] with ⟨%K, -, Hinv, Hr, Hat, Hopen, Htok⟩
  · isplitl [Hv]
    · iapply hv $$ Hv
    · iexact Hu
  imodintro
  iexists K
  isplitl [Hinv Hr]
  · unfold records
    isplitl [Hinv]
    · iapply (Entails.of_eq (cells_all fun g => (cellInv ER (Rd P) (K g) g : sProp 𝕄))) $$ Hinv
    · iapply hr $$ Hr
  ihave Ht := (Entails.of_eq (tokens_dealt (F := F))) $$ Htok
  icases Ht with ⟨Hb, Hs, Hv⟩
  unfold own
  iapply (Entails.of_eq (bigSep_sep' ..).symm)
  isplitl [Hopen]; · iapply hopen $$ Hopen
  iapply (Entails.of_eq (bigSep_sep' ..).symm)
  isplitl [Hs Hv]
  · iapply (Entails.of_eq (bigSep_sep' ..).symm)
    isplitl [Hs] <;> iassumption
  iapply (Entails.of_eq (bigSep_sep' ..).symm)
  isplitl [Hat]; · iapply hat $$ Hat
  iexact Hb

end Ghost

/-! ## The credits -/

theorem recvCell_inj {c d : Dev nD} {x y : Slot} (h : recvCell c x = recvCell d y) : c = d ∧ x = y :=
  have e := kcell_injective (a₁ := (c, .inr (.inr x))) (a₂ := (d, .inr (.inr y))) h
  ⟨congrArg Prod.fst e, Sum.inr_injective (Sum.inr_injective (congrArg Prod.snd e))⟩

theorem barCell_inj {c d : Dev nD} (h : barCell c = barCell d) : c = d := congrArg (fun g : GSem nD τ sig => g.1.1) h

theorem recvCell_ne_barCell (c d : Dev nD) (x : Slot) : recvCell c x ≠ barCell d := fun h => by
  have e := congrArg (fun g : GSem nD τ sig => kind g.2) h
  rw [kind_recv, kind_bar] at e
  cases e

theorem eq_peer {k : Fin 3} {c d : Dev nD} : c = peer k d ↔ d = peer k c :=
  ⟨fun h => by rw [h, peer_peer], fun h => by rw [h, peer_peer]⟩

/-- Of the copies `xs` yet to start, only the partner's brings anything to a slot. -/
theorem owedL_recv (d c : Dev nD) (x : Slot) {xs : List Slot} (hx : xs.Nodup) :
    owedL d xs (recvCell c x) () = if x ∈ xs ∧ d = peer (ax x) c then N x else 0 := by
  induction xs with
  | nil => rw [if_neg fun h => List.not_mem_nil h.1]; rfl
  | cons y xs ih =>
    unfold owedL
    rw [Pi.add_apply, Finsupp.add_apply, ih (List.nodup_cons.mp hx).2, tallyAt_apply]
    by_cases e : x = y
    · subst e
      rw [if_neg fun h => (List.nodup_cons.mp hx).1 h.1, Nat.zero_add]
      exact if_congr ⟨fun h => ⟨List.mem_cons_self, eq_peer.mp (recvCell_inj h.1).1⟩, fun h => ⟨by rw [h.2, peer_peer], rfl⟩⟩ rfl rfl
    · rw [if_neg (c := recvCell c x = _ ∧ _) fun h => e (recvCell_inj h.1).2, Nat.add_zero]
      exact if_congr ⟨fun h => ⟨List.mem_cons_of_mem _ h.1, h.2⟩, fun h => ⟨(List.mem_cons.mp h.1).resolve_left e, h.2⟩⟩ rfl rfl

theorem owedL_bar (d c : Dev nD) (xs : List Slot) : owedL d xs (barCell c) () = 0 :=
  Nat.eq_zero_of_not_pos fun h => by
    obtain ⟨y, -, e⟩ := owedL_pos h
    exact recvCell_ne_barCell _ _ _ e.symm

theorem owed_recv (d c : Dev nD) (x : Slot) : O₀ d (recvCell c x) () = if d = peer (ax x) c then N x else 0 := by
  unfold O₀
  simp only [Pi.add_apply, Finsupp.add_apply, tallyAt_apply]
  rw [if_neg fun h => recvCell_ne_barCell _ _ _ h.1, if_neg fun h => recvCell_ne_barCell _ _ _ h.1, if_neg fun h => recvCell_ne_barCell _ _ _ h.1,
    owedL_recv d c x (by decide)]
  have hx : x ∈ slots := by revert x; decide
  exact if_congr ⟨fun h => h.2, fun h => ⟨hx, h⟩⟩ rfl rfl

theorem owed_bar (d c : Dev nD) : O₀ d (barCell c) () = ∑ k : Fin 3, if d = peer k c then 1 else 0 := by
  have hk (k : Fin 3) : (if barCell c = barCell (peer k d) ∧ True then 1 else 0) = if d = peer k c then 1 else 0 :=
    if_congr ⟨fun h => eq_peer.mp (barCell_inj h.1), fun h => ⟨by rw [h, peer_peer], trivial⟩⟩ rfl rfl
  unfold O₀
  simp only [Pi.add_apply, Finsupp.add_apply, tallyAt_apply]
  rw [owedL_bar, hk, hk, hk, Fin.sum_univ_three]
  omega

theorem credit_recv (c : Dev nD) (x : Slot) :
    tallyOn (recvCell c x) (launchCredit (Pipeline.owing O₀) 0 (recvCell c x)) = (tallyAt (recvCell c x) () (N x) : CellTallies nD τ sig Unit) := by
  unfold tallyAt; refine congrArg _ (Finsupp.ext fun u => ?_); cases u
  rw [Pipeline.launchCredit_owing, Finsupp.single_eq_same, Finset.sum_congr rfl fun d _ => owed_recv d c x,
    Finset.sum_ite_eq' Finset.univ (peer (ax x) c) fun _ => N x, if_pos (Finset.mem_univ _)]

theorem credit_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => (Finset.sum_ite_eq' Finset.univ (peer k c) fun _ => 1).trans (if_pos (Finset.mem_univ _))]
  rfl

/-- The arrivals' semaphores. -/
def recvEmb : Slot ↪ SemLoc sig := ⟨fun x => .dma (recvS x), fun _ _ h => recvS_injective (SemLoc.dma.inj h)⟩

theorem recvs_sub : Finset.univ.map recvEmb ⊆ (Finset.univ : Finset (SemLoc sig)).erase (.reg barS) := fun sm h => by
  obtain ⟨x, -, rfl⟩ := Finset.mem_map.mp h
  exact Finset.mem_erase.mpr ⟨(fun e => nomatch e : SemLoc.dma (recvS x) ≠ SemLoc.reg barS), Finset.mem_univ _⟩

/-- The launch's credit covers what a device waits for. -/
theorem credits_launched (c : Dev nD) : (Pipeline.launchCred O₀ c : sProp 𝕄) ⊢ credits c := by
  unfold Pipeline.launchCred credits
  rw [bigSep_univ_at _ (SemLoc.reg barS), credit_bar]
  refine sep_mono_right ((bigSep_subset recvs_sub).trans ?_)
  rw [bigSep_map]
  exact Entails.of_eq (bigSep_congr fun x _ => congrArg cred (credit_recv c x))

end Cert.KernelIdealProof

end
-- ==== Proof.Run.lean ====
/-
The run. From any memory with every counter at zero, every weakly fair execution of the program on the eight devices
ends, with the arguments unchanged, every counter at zero, and on every device the result of the exchange.
-/
module

public import proofs.«01_k».proof.Proof.Launch

@[expose] public section

set_option maxRecDepth 16384

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The buffers as the host operations leave them for the call. -/
abbrev given (c : Dev nD) : Valuation τ sig (Elt F) := V1 m c

/-- What a device holds beside its buffers: of the exchange before the call, of the barrier after it. -/
def rest (i : Fin 2) (c : Dev nD) : sProp 𝕄 := if i = 0 then before (given m) c else iprop(semVal (barCell c) 0)

/-- What the launch starts from: the staging cells' tokens and the exchange's. -/
def started : UU :=
  (initOf (Pipeline.cells (Pipeline.pin (pcfgs (F := F)) adm) cellOf_inj) (Pipeline.launchToks (Pipeline.pin (pcfgs (F := F)) adm) cellOf_inj),
    launchOf barCells copyCells tokens)

/-- The exchange's tokens, lying with the first device until they are dealt. -/
def parked (c : Dev nD) : sProp 𝕄 := if c = 0 then BI.own (ER (launchOf barCells copyCells tokens)) else iprop(emp)

omit [FloatOps F] in
theorem parked_all : bigSep Finset.univ (parked (F := F)) = BI.own (ER (launchOf barCells copyCells tokens)) := by
  rw [bigSep_univ_at _ (0 : Dev nD), bigSep_congr (s := Finset.univ.erase (0 : Dev nD)) (Φ := parked) (Ψ := fun _ => (BI.emp : sProp 𝕄))
    fun c hc => if_neg (Finset.ne_of_mem_erase hc), BI.bigSep_emp_const]
  exact (BI.equiv_iff.mp sep_emp).trans (if_pos rfl)

omit [FloatOps F] in
theorem barrier_unscoped (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem unscoped_eq : ∀ sm : SemLoc sig, sm.isScoped .tc = false → sm = .reg barS := by decide

/-- What a device holds when the program starts. -/
abbrev atStart (c : Dev nD) : sProp 𝕄 :=
  iprop(StableHlo.held (c : Thread nD τ) (Pipeline.ucRefs τ sig) (V0 m c) ∗ rest m 0 c)
/-- What it holds when the program ends. -/
abbrev atEnd (c : Dev nD) : sProp 𝕄 :=
  iprop(StableHlo.held (c : Thread nD τ) (Pipeline.ucRefs τ sig) (Vout (given m) c) ∗ semVal (barCell c) 0)

/-- What of the start is a device's own before the exchange's tokens are dealt. -/
def ownStart (c : Dev nD) : sProp 𝕄 :=
  iprop(StableHlo.held (c : Thread nD τ) (Pipeline.ucRefs τ sig) (V0 m c) ∗ credits c ∗ owes (c : Thread nD τ) (O₀ c) ∅ ∗ ∃ r, prngReg c r)

theorem start_intro (K : GSem nD τ sig → ℕ) (c : Dev nD) :
    iprop(records (partOf (given m)) K ∗ (own c ∗ ownStart m c)) ⊢ atStart m c := by
  unfold ownStart atStart rest before
  rw [if_pos rfl]
  iintro ⟨#HR, Hl, Hh, Hc, HO, Hp⟩
  isplitl [Hh]; · iexact Hh
  isplitl [Hp]; · iexact Hp
  isplitl [Hl Hc]
  · iexists K
    iapply (kept_intro (partOf (given m)) K c)
    isplitr; · iexact HR
    isplitl [Hl] <;> iassumption
  · iexists ∅; iexact HO

/-- What the machine hands a device when the program starts. -/
abbrev handed (c : Dev nD) : sProp 𝕄 :=
  iprop(unscopedBufs c (fun b => m ((c.tc : Thread nD τ).loc b)) ∗ unscopedSems0 c
    ∗ owes (c.tc : Thread nD τ) (O₀ c) ∅ ∗ Pipeline.launchCred O₀ c ∗ prngReg c (ρ c) ∗ parked c)

/-- The launch: what the machine hands out makes every device's start. -/
theorem launched :
    iprop((bigSep Finset.univ fun c => handed m ρ c) ∗ levAts L lv)
      ⊢ (|={Set.univ}=> bigSep Finset.univ (atStart m) : sProp 𝕄) := by
  have hcore (c : Dev nD) : handed m ρ c ⊢ (iprop(ownStart m c ∗ semVal (barCell c) 0 ∗ parked c) : sProp 𝕄) := by
    unfold handed
    rw [show (unscopedBufs c (fun b => m ((c.tc : Thread nD τ).loc b)) : sProp 𝕄) = StableHlo.held (c : Thread nD τ) (Pipeline.ucRefs τ sig) (V0 m c) from
      Pipeline.unscopedBufs_held c (V0 m c), barrier_unscoped]
    unfold ownStart
    iintro ⟨Hh, Hus, HO, Hcr, Hp, HG⟩
    isplitl [Hh Hcr HO Hp]
    · isplitl [Hh]; · iexact Hh
      isplitl [Hcr]; · iapply (credits_launched (F := F) c); iexact Hcr
      isplitl [HO]; · iexact HO
      iexists (ρ c); iexact Hp
    isplitl [Hus] <;> iassumption
  have hall : (bigSep Finset.univ fun c => handed m ρ c)
      ⊢ (iprop((bigSep Finset.univ fun c => ownStart m c) ∗ (bigSep Finset.univ fun c : Dev nD => semVal (barCell c) 0) ∗ bigSep Finset.univ parked) : sProp 𝕄) :=
    (bigSep_mono (s := Finset.univ) fun (c : Dev nD) _ => hcore c).trans
    ((Entails.of_eq (bigSep_sep' ..)).trans (sep_mono_right (Entails.of_eq (bigSep_sep' ..))))
  iintro ⟨H, -⟩
  ihave H' := hall $$ H
  icases H' with ⟨HB, Hv, HG⟩
  imod (fund (partOf (given m))) $$ [Hv HG] with ⟨%K, #HR, Ho⟩
  · isplitl [Hv]; · iexact Hv
    iapply (Entails.of_eq (parked_all (F := F))) $$ HG
  imodintro
  iapply (bigSep_with_persistent (R := records (partOf (given m)) K) (Φ := fun c => iprop(own c ∗ ownStart m c)) fun c _ => start_intro m K c)
  isplitr; · iexact HR
  iapply (Entails.of_eq (bigSep_sep' ..).symm)
  isplitl [Ho] <;> iassumption

/-- An argument is what it was: neither the host operations nor the call write it. -/
theorem unwritten (c : Dev nD) (r : Ref sig .tc) (h : r ∉ hostOps0_W) (h' : r ≠ main_v17) :
    Vout (given m) c r = m ((c.tc : Thread nD τ).loc r) :=
  (Vout_of (given m) c h').trans (V1_of m c r h)

set_option backward.isDefEq.respectTransparency.types false in
/-- The run. -/
theorem run_main : θ_run defs (onTc (τ := τ) (main (F := F))) ⟨m, fun _ => 0, ρ⟩ (fun r =>
    (∀ c : Dev nD,
      (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.mem ((c.tc : Thread nD τ).loc main_v17) = out (partOf (given m)) c)
    ∧ r.2.sem = fun _ => 0) := by
  refine Pipeline.θ_run_regions_kit_dev_sems (pcfgs (F := F)) adm (pdats (given m)) () cellOf_inj EP defs₀ 𝒱₀ L lv m ρ main
    (segs m 𝒱₀ L lv (rest m) () (pdats (given m)) (call (given m)))
    (fun c Q => by
      rewrite [main_chain c, Pipeline.Seg.run_eq_chain,
        show (segs m 𝒱₀ L lv (rest m) () (pdats (given m)) (call (given m)) c).map Pipeline.Seg.prog = [
          StableHlo.seq (hostOps0 c),
          Prog.lift (.customCall (Pipeline.entry 0) ()) ] from rfl]
      exact .rfl)
    (fun c => by simp only [segs, Pipeline.Seg.pipes_host, Pipeline.Seg.pipes_region, Pipeline.Seg.pipes_nil]; decide)
    O₀ L_of_ne parked started
    (hu₀ := by
      unfold started
      iintro Hu
      ihave H := (ownU_pair _ _) $$ Hu
      icases H with ⟨HP, HX⟩
      imodintro
      isplitl [HP]; · iexact HP
      rw [parked_all]; iexact HX)
    (T₀ := atStart m) (Tₙ := atEnd m)
    (hch := fun c => ⟨.rfl, call_pre (given m) c, call_post (given m) c⟩)
    (hinit := launched m ρ)
    (QY := fun c s => (∀ b ∈ Pipeline.ucRefs τ sig, s.mem ((c : Thread nD τ).1, b) = Vout (given m) c b) ∧ s.sem (barCell c) = 0)
    (hfin := fun c s' => ?_)
    (hQ := fun s h hs => ⟨fun c => ?_, sem_eq_zero hs fun c sm hsm => ?_⟩)
  · unfold atEnd StableHlo.held
    iintro ⟨⟨Hh, Hb⟩, HSI⟩
    icombine HSI Hb gives %hb
    ihave Hr := (pointsTo_read_all (Pipeline.ucRefs τ sig) (fun b => ((c : Thread nD τ).1, b)) (Vout (given m) c) s') $$ [Hh HSI]
    · isplitl [Hh] <;> iassumption
    icases Hr with ⟨%h, HSI⟩
    imodintro
    isplitr
    · ipureintro
      exact ⟨h, by simpa using hb⟩
    iexact HSI
  · have read (r : Ref sig .tc) (hr : Proc.devRef .tc r ∈ Pipeline.ucRefs τ sig) : s.mem ((c.tc : Thread nD τ).loc r) = Vout (given m) c r := (h c).1 _ hr
    exact ⟨⟨(read main_arg0 (by decide)).trans (unwritten m c main_arg0 (by decide) (by decide)),
      (read main_arg1 (by decide)).trans (unwritten m c main_arg1 (by decide) (by decide)),
      (read main_arg2 (by decide)).trans (unwritten m c main_arg2 (by decide) (by decide)),
      (read main_arg3 (by decide)).trans (unwritten m c main_arg3 (by decide) (by decide)),
      (read main_arg4 (by decide)).trans (unwritten m c main_arg4 (by decide) (by decide))⟩,
      (read main_v17 (by decide)).trans (Vout_res (given m) c)⟩
  · obtain rfl := unscoped_eq sm hsm
    exact (h c).2

end Cert.KernelIdealProof

end
-- ==== Proof.Softmax.lean ====
/-
One entry of one attention head, in extended reals, in the two orders of computing it: with the exponentials of the scores as they
are and the division last, and with each score less the greatest and the division first. Where the scores are real the two are equal,
whatever the values are.
-/
module

public import Idealize.ShloMosaic.Lib.IdealHost

@[expose] public section

noncomputable section

namespace Cert.Attention

open Idealize.ShloMosaic

/-- The score of a query against a key: their product over the head's sixty-four entries, scaled. -/
def score (q k : Fin 64 → EReal) : EReal := (∑ d, q d * k d) * Ideal.ofBits .f32 0x3E000000#32

/-- One entry of a head, from a query, the batch's keys and one column of its values: the values summed with the exponentials
    of the scores, over the sum of the exponentials. -/
def weigh (q : Fin 64 → EReal) (k : Fin 128 → Fin 64 → EReal) (v : Fin 128 → EReal) : EReal :=
  (∑ j, Ideal.exp (score q (k j)) * v j) * Ideal.div 1 (∑ j, Ideal.exp (score q (k j)))

/-- The greatest of a query's scores. -/
def most (q : Fin 64 → EReal) (k : Fin 128 → Fin 64 → EReal) : EReal :=
  Finset.fold max (Ideal.ofBits .f32 0xFF800000#32) (fun j => score q (k j)) Finset.univ

/-- The same entry by a softmax: each value with its exponential's share, the scores taken less the greatest. -/
def attend (q : Fin 64 → EReal) (k : Fin 128 → Fin 64 → EReal) (v : Fin 128 → EReal) : EReal :=
  ∑ j, v j * Ideal.div (Ideal.exp (score q (k j) - most q k)) (∑ j, Ideal.exp (score q (k j) - most q k))

/-- An extended real that is a real. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A sum of reals, taken in the extended reals. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} {s : Finset ι} {f : ι → EReal} (h : ∀ i, IsReal (f i)) : IsReal (∑ i ∈ s, f i) := by
  choose g hg using h
  simp only [hg]
  exact ⟨_, sum_coe s g⟩

/-- The scale, one eighth, is real. -/
theorem scale_real : IsReal (Ideal.ofBits .f32 0x3E000000#32) := by
  refine ⟨1 / 8, ?_⟩
  simp [Ideal.ofBits, Ideal.ieee, -EReal.coe_mul]; norm_num

/-- The greatest score is sought from below everything. -/
theorem floor_bot : Ideal.ofBits .f32 0xFF800000#32 = ⊥ := by
  simp [Ideal.ofBits, Ideal.ieee]

/-- Real queries and keys have real scores. -/
theorem score_real {q k : Fin 64 → EReal} (hq : ∀ d, IsReal (q d)) (hk : ∀ d, IsReal (k d)) : IsReal (score q k) :=
  (IsReal.sum fun d => (hq d).mul (hk d)).mul scale_real

/-- The greatest of finitely many reals, at least one, is real. -/
theorem fold_max_real {ι : Type} (s : Finset ι) (f : ι → ℝ) (hs : s.Nonempty) :
    IsReal (Finset.fold max (⊥ : EReal) (fun i => (f i : EReal)) s) := by
  classical
  induction hs using Finset.Nonempty.cons_induction with
  | singleton a => exact ⟨f a, by simp⟩
  | cons a s ha hs ih =>
    obtain ⟨r, hr⟩ := ih
    refine ⟨max (f a) r, ?_⟩
    rw [Finset.fold_cons, hr]
    exact (EReal.coe_strictMono.monotone.map_max).symm

/-- A sum times a nonnegative real is the sum of the products, whatever the terms. -/
theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- The two orders agree where the query and the keys are real. -/
theorem weigh_eq_attend {q : Fin 64 → EReal} {k : Fin 128 → Fin 64 → EReal} (v : Fin 128 → EReal)
    (hq : ∀ d, IsReal (q d)) (hk : ∀ j d, IsReal (k j d)) : weigh q k v = attend q k v := by
  have hs : ∀ j, IsReal (score q (k j)) := fun j => score_real hq (hk j)
  choose s es using hs
  obtain ⟨M, eM⟩ : IsReal (most q k) := by
    unfold most
    simp only [es, floor_bot]
    exact fold_max_real _ s Finset.univ_nonempty
  have pos : ∀ f : Fin 128 → ℝ, 0 < ∑ j, Real.exp (f j) := fun f => Finset.sum_pos (fun j _ => Real.exp_pos _) Finset.univ_nonempty
  unfold weigh attend
  simp only [es, eM, ← EReal.coe_sub, Ideal.exp_coe, sum_coe]
  rw [Ideal.div_coe (pos s).ne', one_mul, sum_mul_real _ _ _ (one_div_pos.mpr (pos s)).le]
  refine Finset.sum_congr rfl fun j _ => ?_
  rw [Ideal.div_coe (pos fun j => s j - M).ne', mul_comm (Real.exp (s j) : EReal) (v j), mul_assoc, ← EReal.coe_mul, ← EReal.coe_mul]
  congr 2
  simp only [Real.exp_sub, ← Finset.sum_div]
  have h1 := (pos s).ne'
  have h2 := (Real.exp_pos M).ne'
  field_simp

end Cert.Attention
end
-- ==== Proof.Finite.lean ====
/-
What the precondition says of one device's blocks: every entry of the inputs, of the query weights and of the device's keys is real.
-/
module

public import proofs.«01_k».proof.Pre_finite_KernelIdeal
public import proofs.«01_k».proof.Proof.Softmax
public import Idealize.ShloMosaic.Lib.ReduceAll
public import Idealize.ShloMosaic.Lib.Pointwise

@[expose] public section

noncomputable section

namespace Cert.Attention

open Idealize.ShloMosaic
open Cert.Pre_finite_KernelIdeal (S_ S2x128x512 S512x2048 S2x128x4x64 S2048x512)

theorem ceiling_top : Ideal.ofBits .bf16 0x7F80#16 = ⊤ := by
  simp [Ideal.ofBits, Ideal.ieee]

/-- An extended real of absolute value below the infinity is real. -/
theorem real_of_abs_lt {x : EReal} (h : Ideal.cmp .olt (max x (-x)) (Ideal.ofBits .bf16 0x7F80#16) = 1#1) : IsReal x := by
  rw [ceiling_top] at h
  have h' := (Ideal.cmp_olt_eq_one _ _).1 h
  induction x using EReal.rec with
  | bot => simp at h'
  | top => simp at h'
  | coe r => exact ⟨r, rfl⟩

/-- An array whose entries all compare below the infinity in absolute value holds reals. -/
theorem all_real {s : Shape} {axes : List (Fin s.rank)} (x : FVec Ideal s .bf16) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant S_ .bf16 0x7F80#16))) (constantI S_ 1 1#1) h hu j = 1#1)
    (i : s.Idx) : IsReal (x i) := by
  haveI : Subsingleton S_.Idx := ⟨fun a b => funext fun k => k.elim0⟩
  exact real_of_abs_lt (Host.reduce_andi_all _ _ _ _ j e i)

/-- The precondition, read. -/
theorem finite_real [Cert.Pre_finite_KernelIdeal.Facts] {x : FVec Ideal S2x128x512 .bf16} {wq : FVec Ideal S512x2048 .bf16}
    {k v : FVec Ideal S2x128x4x64 .bf16} {wo : FVec Ideal S2048x512 .bf16}
    (h : Cert.Pre_finite_KernelIdeal.fn x wq k v wo = fun _ => 1#1) :
    (∀ i, IsReal (x i)) ∧ (∀ i, IsReal (wq i)) ∧ ∀ i, IsReal (k i) := by
  have e := congrFun h (fun a => a.elim0)
  obtain ⟨e2, e3⟩ := IntOp.andi_eq_one.1 e
  obtain ⟨e1, e2⟩ := IntOp.andi_eq_one.1 e2
  exact ⟨all_real x _ _ _ _ e1, all_real wq _ _ _ _ e2, all_real k _ _ _ _ e3⟩

end Cert.Attention
end
-- ==== Proof.Head.lean ====
/-
One device's partial product at exact values, entry by entry: what one attention head computes, which heads a row holds, and the
product with the device's rows of the output weights.
-/
module

public import proofs.«01_k».proof.Proof.Partial
public import proofs.«01_k».proof.Proof.Softmax
public import Idealize.ShloMosaic.Lib.Pointwise

@[expose] public section

set_option maxRecDepth 16384

noncomputable section

namespace Cert.KernelIdealProof

open Cert.KernelIdeal Cert.KernelIdeal.Gen Cert.Attention
open Idealize.ShloMosaic

variable {F : FTy → Type} [FloatOps F]

/-- One head of one batch: from its queries, keys and values to its weighted values, the weights not shifted by their maximum. -/
def head (q k v : FVec F S128x64 .bf16) : FVec F S128x64 .bf16 :=
  have e : FVec F S128x128 .f32 :=
    exp (mulf (matmul dot_S128x64_S128x64_S128x128_1_1_0_0_n_n none q k (constant S128x128 .f32 0x00000000#32))
      (broadcast S128x128 (Scalar.ofBits .f32 0x3E000000#32)))
  have inv : FVec F S128x1 .f32 :=
    divf (broadcast S128x1 (Scalar.ofBits .f32 0x3F800000#32))
      (shapeCast S128x1 (multiReduction .add [1] S128 e 0x00000000#32 reduces_S128x128_S128 (.inl rfl) rfl) shapeCasts_S128_S128x1)
  truncf .bf16 (mulf (matmul dot_S128x128_S128x64_S128x64_1_0_0_1_n_n none (truncf .bf16 e bitsLt_bf16_f32) v
    (constant S128x64 .f32 0x00000000#32)) (broadcastTo S128x64 inv broadcasts_S128x1_S128x64)) bitsLt_bf16_f32

/-- Four heads side by side. -/
def fourHeads (h0 h1 h2 h3 : FVec F S128x64 .bf16) : FVec F S128x256 .bf16 :=
  concatenate S128x256 1 [⟨S128x64, h0⟩, ⟨S128x64, h1⟩, ⟨S128x64, h2⟩, ⟨S128x64, h3⟩] concatenates_S128x64_S128x64_S128x64_S128x64_S128x256_d1

/-- The columns of one head, from an array of four heads' columns. -/
abbrev cols0 (y : FVec F S128x256 .bf16) : FVec F S128x64 .bf16 := extractStridedSlice S128x64 ![0, 0] y slices_S128x256_o0_0_S128x64
abbrev cols1 (y : FVec F S128x256 .bf16) : FVec F S128x64 .bf16 := extractStridedSlice S128x64 ![0, 64] y slices_S128x256_o0_64_S128x64
abbrev cols2 (y : FVec F S128x256 .bf16) : FVec F S128x64 .bf16 := extractStridedSlice S128x64 ![0, 128] y slices_S128x256_o0_128_S128x64
abbrev cols3 (y : FVec F S128x256 .bf16) : FVec F S128x64 .bf16 := extractStridedSlice S128x64 ![0, 192] y slices_S128x256_o0_192_S128x64

/-- Batch 0's rows are its four heads. -/
theorem rows0_heads (x : FVec F S2x128x512 .bf16) (wq : FVec F S512x256 .bf16) (k v : FVec F S1x128x256 .bf16) :
    rowsOf0 x wq k v = fourHeads
      (head (extractStridedSlice S128x64 ![0, 0] (k0_pay1 x wq) slices_S256x256_o0_0_S128x64) (cols0 (k0_pay2 k)) (cols0 (k0_pay3 v)))
      (head (extractStridedSlice S128x64 ![0, 64] (k0_pay1 x wq) slices_S256x256_o0_64_S128x64) (cols1 (k0_pay2 k)) (cols1 (k0_pay3 v)))
      (head (extractStridedSlice S128x64 ![0, 128] (k0_pay1 x wq) slices_S256x256_o0_128_S128x64) (cols2 (k0_pay2 k)) (cols2 (k0_pay3 v)))
      (head (extractStridedSlice S128x64 ![0, 192] (k0_pay1 x wq) slices_S256x256_o0_192_S128x64) (cols3 (k0_pay2 k)) (cols3 (k0_pay3 v))) := rfl

/-- Both batches' rows, each its four heads. -/
theorem rows_heads (x : FVec F S2x128x512 .bf16) (wq : FVec F S512x256 .bf16) (k v : FVec F S2x128x256 .bf16) :
    rowsOf x wq k v = concatenate S256x256 0 [⟨S128x256, rowsOf0 x wq (plane0 k) (plane0 v)⟩, ⟨S128x256, fourHeads
      (head (extractStridedSlice S128x64 ![128, 0] (k0_pay1 x wq) slices_S256x256_o128_0_S128x64) (cols0 (k0_pay2 (plane1 k))) (cols0 (k0_pay3 (plane1 v))))
      (head (extractStridedSlice S128x64 ![128, 64] (k0_pay1 x wq) slices_S256x256_o128_64_S128x64) (cols1 (k0_pay2 (plane1 k))) (cols1 (k0_pay3 (plane1 v))))
      (head (extractStridedSlice S128x64 ![128, 128] (k0_pay1 x wq) slices_S256x256_o128_128_S128x64) (cols2 (k0_pay2 (plane1 k))) (cols2 (k0_pay3 (plane1 v))))
      (head (extractStridedSlice S128x64 ![128, 192] (k0_pay1 x wq) slices_S256x256_o128_192_S128x64) (cols3 (k0_pay2 (plane1 k))) (cols3 (k0_pay3 (plane1 v))))⟩]
      concatenates_S128x256_S128x256_S256x256_d0 := rfl

/-! ## At exact values -/

/-- One entry of a head. -/
theorem head_apply (q k v : FVec Ideal S128x64 .bf16) (i : Fin 128) (d : Fin 64) :
    head q k v (ix2 i d) = weigh (fun d => q (ix2 i d)) (fun j d => k (ix2 j d)) (fun j => v (ix2 j d)) := by
  pointwise [head, weigh, score]

/-- The column of entry `d` of the head that column `t` is of. -/
def inHead (t : Fin 256) (d : Fin 64) : Fin 256 := ⟨64 * (t.val / 64) + d.val, by omega⟩

/-- A row of four heads, at any column. -/
theorem four_apply (ro : ℕ) (Q : FVec Ideal S256x256 .bf16) (K V : FVec Ideal S128x256 .bf16) (h0 h1 h2 h3)
    (i : Fin 128) (r : Fin 256) (hr : r.val = ro + i.val) (t : Fin 256) :
    fourHeads (head (extractStridedSlice S128x64 ![ro, 0] Q h0) (cols0 K) (cols0 V))
      (head (extractStridedSlice S128x64 ![ro, 64] Q h1) (cols1 K) (cols1 V))
      (head (extractStridedSlice S128x64 ![ro, 128] Q h2) (cols2 K) (cols2 V))
      (head (extractStridedSlice S128x64 ![ro, 192] Q h3) (cols3 K) (cols3 V)) (ix2 i t)
      = weigh (fun d => Q (ix2 r (inHead t d))) (fun j d => K (ix2 j (inHead t d))) (fun j => V (ix2 j t)) := by
  generalize e0 : head (extractStridedSlice S128x64 ![ro, 0] Q h0) _ _ = a0
  generalize e1 : head (extractStridedSlice S128x64 ![ro, 64] Q h1) _ _ = a1
  generalize e2 : head (extractStridedSlice S128x64 ![ro, 128] Q h2) _ _ = a2
  generalize e3 : head (extractStridedSlice S128x64 ![ro, 192] Q h3) _ _ = a3
  have ht := t.isLt
  pointwise [fourHeads]
  subst e0 e1 e2 e3
  split_ifs with c0 c1 c2 <;> rw [head_apply] <;> congr 1
  all_goals first
    | (funext j d; pointwise; congr 2 <;> apply Fin.ext <;> simp only [inHead] <;> omega)
    | (funext d; pointwise; congr 2 <;> apply Fin.ext <;> simp only [inHead] <;> omega)
    | (funext d; pointwise; done)

/-- One entry of the queries: a row of the inputs against a column of the query weights. -/
theorem query_apply (x : FVec Ideal S2x128x512 .bf16) (wq : FVec Ideal S512x256 .bf16) (b : Fin 2) (i : Fin 128) (r t : Fin 256)
    (hr : r.val = 128 * b.val + i.val) :
    k0_pay1 x wq (ix2 r t) = ∑ m : Fin 512, x (ix3 b i m) * wq (ix2 m t) := by
  pointwise [k0_pay1]
  refine Finset.sum_congr rfl fun m _ => ?_
  congr 3 <;> apply Fin.ext <;> dsimp only <;> omega

/-- One entry of a batch's plane of the keys or values. -/
theorem plane_apply (k : FVec Ideal S2x128x256 .bf16) (b inb) (b' : Fin 2) (hb : b'.val = b) (j : Fin 128) (t : Fin 256) :
    k0_pay2 (plane b inb k) (ix2 j t) = k (ix3 b' j t) := by
  subst hb
  pointwise [k0_pay2, plane]
  congr 1
  funext a; fin_cases a <;> apply Fin.ext <;> simp [Rect.emb_apply]

/-- Row `i` of batch `b`, in an array of both batches' rows. -/
def rowAt (b : Fin 2) (i : Fin 128) : Fin 256 := ⟨128 * b.val + i.val, by omega⟩

/-- The rows of both batches, at any row and column. -/
theorem rows_apply (x : FVec Ideal S2x128x512 .bf16) (wq : FVec Ideal S512x256 .bf16) (k v : FVec Ideal S2x128x256 .bf16)
    (b : Fin 2) (i : Fin 128) (t : Fin 256) :
    rowsOf x wq k v (ix2 (rowAt b i) t) = weigh (fun d => ∑ m : Fin 512, x (ix3 b i m) * wq (ix2 m (inHead t d)))
      (fun j d => k (ix3 b j (inHead t d))) (fun j => v (ix3 b j t)) := by
  have e := i.isLt
  have h0 := fun i r hr => four_apply 0 (k0_pay1 x wq) (k0_pay2 (plane0 k)) (k0_pay3 (plane0 v)) slices_S256x256_o0_0_S128x64
    slices_S256x256_o0_64_S128x64 slices_S256x256_o0_128_S128x64 slices_S256x256_o0_192_S128x64 i r hr t
  have h1 := fun i r hr => four_apply 128 (k0_pay1 x wq) (k0_pay2 (plane1 k)) (k0_pay3 (plane1 v)) slices_S256x256_o128_0_S128x64
    slices_S256x256_o128_64_S128x64 slices_S256x256_o128_128_S128x64 slices_S256x256_o128_192_S128x64 i r hr t
  rw [rows_heads, rows0_heads]
  generalize fourHeads _ _ _ _ = a0 at *
  generalize fourHeads _ _ _ _ = a1 at *
  obtain rfl | rfl : b = 0 ∨ b = 1 := by omega
  · have l : (rowAt 0 i).val < 128 := by simp [rowAt]
    pointwise
    rw [dif_pos l, h0 _ (rowAt 0 i) (by simp)]
    simp only [fun u => query_apply x wq 0 i (rowAt 0 i) u rfl]
    congr 1
    · funext j d; exact plane_apply k 0 _ 0 rfl j _
    · funext j; exact plane_apply v 0 _ 0 rfl j _
  · have l : ¬ (rowAt 1 i).val < 128 := by simp [rowAt]
    pointwise
    rw [dif_neg l, h1 _ (rowAt 1 i) (by simp [rowAt])]
    simp only [fun u => query_apply x wq 1 i (rowAt 1 i) u rfl]
    congr 1
    · funext j d; exact plane_apply k 1 _ 1 rfl j _
    · funext j; exact plane_apply v 1 _ 1 rfl j _

/-- One entry of the device's partial product. -/
theorem part_apply (x : FVec Ideal S2x128x512 .bf16) (wq : FVec Ideal S512x256 .bf16) (k v : FVec Ideal S2x128x256 .bf16)
    (wo : FVec Ideal S256x512 .bf16) (b : Fin 2) (i : Fin 128) (n : Fin 512) :
    part x wq k v wo (ix2 (rowAt b i) n)
      = ∑ t : Fin 256, weigh (fun d => ∑ m : Fin 512, x (ix3 b i m) * wq (ix2 m (inHead t d)))
          (fun j d => k (ix3 b j (inHead t d))) (fun j => v (ix3 b j t)) * wo (ix2 t n) := by
  have e := rows_apply x wq k v b i
  unfold part
  generalize rowsOf x wq k v = R at *
  simp only [← e]
  pointwise [k0_pay20, k0_pay19]

end Cert.KernelIdealProof
end
-- ==== Proof.Host.lean ====
/-
What the operations before the call leave for it: device `c`'s columns of the query weights, its rows of the output weights, and
its heads' keys and values, read at an entry.
-/
module

public import proofs.«01_k».proof.Proof.Region
public import proofs.«01_k».proof.Proof.Head
public import Idealize.ShloMosaic.Lib.DynamicIndex

@[expose] public section

set_option maxRecDepth 16384

noncomputable section

namespace Cert.KernelIdealProof

open Cert.KernelIdeal Cert.KernelIdeal.Gen
open Idealize.ShloMosaic
open Idealize.ShloMosaic.TcCoe

variable {F : FTy → Type} [FloatOps F]

variable (m : (ℓ : Loc nD τ sig) → Buf (Elt F) ℓ)

/-- Where device `c`'s share of the 2048 columns starts, as the host computes it in words: at `256 * c`. -/
theorem share_start (c : Dev nD) :
    (select (cmpi .slt (muli (Host.remui (Host.divui (constantI S_ 32 (Dev.word c)) (constantI S_ 32 1#32)) (constantI S_ 32 8#32))
        (constantI S_ 32 256#32)) (constantI S_ 32 0#32))
      (addi (muli (Host.remui (Host.divui (constantI S_ 32 (Dev.word c)) (constantI S_ 32 1#32)) (constantI S_ 32 8#32))
        (constantI S_ 32 256#32)) (constantI S_ 32 2048#32))
      (muli (Host.remui (Host.divui (constantI S_ 32 (Dev.word c)) (constantI S_ 32 1#32)) (constantI S_ 32 8#32))
        (constantI S_ 32 256#32)) (Shape.Idx.first h_S_)).toInt = ((256 * c.val : ℕ) : ℤ) := by
  revert c; decide

/-- The share lies inside the 2048 columns, or rows. -/
theorem share_cols (c : Dev nD) : S512x2048.Slices ![0, 256 * c.val] S512x256 := by revert c; decide
theorem share_rows (c : Dev nD) : S2048x512.Slices ![256 * c.val, 0] S256x512 := by revert c; decide

/-- The call's query weights are the device's columns of the whole. -/
theorem given_wq (c : Dev nD) : (V1 m c main_v9 : FVec F S512x256 .bf16)
    = extractStridedSlice S512x256 ![0, 256 * c.val] (m (c, main_arg1)) (share_cols c) := by
  unfold V1
  simp only [hostOps0]
  after_results_simp
  refine Host.dynamicSlice_eq_extractStridedSlice _ _ _ _ _ _ fun a => ?_
  fin_cases a
  · dsimp only [Fin.zero_eta, Matrix.cons_val_zero]
    after_results_simp
    rfl
  · dsimp only [Fin.mk_one, Matrix.cons_val_one, Matrix.cons_val_zero, Matrix.cons_val_fin_one]
    after_results_simp
    exact share_start c

/-- The call's output weights are the device's rows of the whole. -/
theorem given_wo (c : Dev nD) : (V1 m c main_v14 : FVec F S256x512 .bf16)
    = extractStridedSlice S256x512 ![256 * c.val, 0] (m (c, main_arg4)) (share_rows c) := by
  unfold V1
  simp only [hostOps0]
  after_results_simp
  refine Host.dynamicSlice_eq_extractStridedSlice _ _ _ _ _ _ fun a => ?_
  fin_cases a
  · dsimp only [Fin.zero_eta, Matrix.cons_val_zero]
    after_results_simp
    exact share_start c
  · dsimp only [Fin.mk_one, Matrix.cons_val_one, Matrix.cons_val_zero, Matrix.cons_val_fin_one]
    after_results_simp
    rfl

/-- The call's inputs are the argument. -/
theorem given_x (c : Dev nD) : V1 m c main_arg0 = m (c, main_arg0) := V1_of m c main_arg0 (by decide)

/-- The call's keys are the device's, the heads side by side. -/
theorem given_k (c : Dev nD) : (V1 m c main_v15 : FVec F S2x128x256 .bf16)
    = shapeCast S2x128x256 (m (c, main_arg2)) shapeCasts_S2x128x4x64_S2x128x256 := by
  unfold V1
  simp only [hostOps0]
  after_results_simp
  rfl

/-- The call's values likewise. -/
theorem given_v (c : Dev nD) : (V1 m c main_v16 : FVec F S2x128x256 .bf16)
    = shapeCast S2x128x256 (m (c, main_arg3)) shapeCasts_S2x128x4x64_S2x128x256 := by
  unfold V1
  simp only [hostOps0]
  after_results_simp
  rfl

end Cert.KernelIdealProof
end
-- ==== Proof.Total.lean ====
/-
The exchange at exact values: after the three steps every device holds the sum of all eight partial products.
-/
module

public import proofs.«01_k».proof.Proof.Contents
public import proofs.«01_k».proof.Proof.Head

@[expose] public section

set_option maxRecDepth 16384

noncomputable section

namespace Cert.KernelIdealProof

open Cert.KernelIdeal Cert.KernelIdeal.Gen
open Idealize.ShloMosaic

/-- Adding a travelled value is adding it. -/
theorem addWire_exact (a b : Ideal .f32) : addWire a (wire b) = (a + b : EReal) := by
  unfold addWire wire; pointwise

/-- The eight devices met along the three axes in turn, whichever axis comes first, are all the devices. -/
theorem met_perm (p : Fin 3) (c : Dev nD) :
    [c, peer p c, peer (1 + p) c, peer p (peer (1 + p) c), peer (2 + p) c, peer p (peer (2 + p) c),
      peer (1 + p) (peer (2 + p) c), peer p (peer (1 + p) (peer (2 + p) c))].Perm (List.finRange nD) := by
  revert p c; decide

/-- After the three steps, every device's sum is the sum of all the partial products. -/
theorem acc_total (P : Dev nD → FVec Ideal S256x512 .f32) (c : Dev nD) (i : S256x512.Idx) :
    acc P 3 c i = ∑ d : Dev nD, (P d i : EReal) := by
  have h := ((met_perm (chunk (i 0).val) c).map fun d => (P d i : EReal)).sum_eq
  rw [Fin.sum_univ_def, ← h]
  simp only [acc_succ, acc_zero, addWire_exact, ax, List.map_cons, List.map_nil, List.sum_cons, List.sum_nil]
  simp only [show (Fin.ofNat 3 0) = 0 from rfl, show (Fin.ofNat 3 1) = 1 from rfl, show (Fin.ofNat 3 2) = 2 from rfl, zero_add, add_zero]
  abel

/-- One entry of the result: the sum, over the devices, of their partial products' entry. -/
theorem out_apply (P : Dev nD → FVec Ideal S256x512 .f32) (c : Dev nD) (b : Fin 2) (i : Fin 128) (n : Fin 512) :
    out P c (ix3 b i n) = ∑ d : Dev nD, (P d (ix2 (rowAt b i) n) : EReal) := by
  unfold out
  rw [← acc_total P c]
  generalize acc P 3 c = A
  pointwise
  congr 2
  apply Fin.ext
  simp only [rowAt]
  omega

end Cert.KernelIdealProof
end
-- ==== Proof.Reference.lean ====
/-
The reference's result at exact values, entry by entry: its mask lets every key through, so a row of its attention is a softmax
of the scores, and the result is the product of the weighted values with the output weights.
-/
module

public import proofs.«01_k».proof.Proof.Gen.ReferenceIdeal.Run
public import proofs.«01_k».proof.Proof.Softmax
public import Idealize.ShloMosaic.Lib.Pointwise

@[expose] public section

set_option maxRecDepth 16384

noncomputable section

namespace Cert.ReferenceIdealProof

open Cert.ReferenceIdeal Cert.ReferenceIdeal.Gen Cert.Attention
open Idealize.ShloMosaic
open Idealize.ShloMosaic.TcCoe

variable {F : FTy → Type} [FloatOps F]

/-- Which keys a query may attend to: those at most 128 positions away. -/
def mask : IVec S128x128 1 :=
  cmpi .sle (absi (subi (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0)))))
    (broadcastInDim S128x128 ![] bcast_S_S128x128 (constantI S_ 32 128#32))

/-- Which queries may attend to some key. -/
def keep : IVec S1x1x128x1 1 :=
  broadcastInDim S1x1x128x1 ![2] bcast_S128_S1x1x128x1_2 (Host.reduce IntOp.ori mask (constantI S_ 1 0#1) reducesTo_S128x128_S128_d1 h_S_)

/-- The scaled scores of every query against every key, the masked ones replaced. -/
def scores (x : FVec F S2x128x512 .bf16) (wq : FVec F S512x2048 .bf16) (k : FVec F S2x128x32x64 .bf16) : FVec F S2x32x128x128 .f32 :=
  select (broadcastInDim S2x32x128x128 ![0, 1, 2, 3] bcast_S1x1x128x128_S2x32x128x128_0_1_2_3 (broadcastInDim S1x1x128x128 ![2, 3] bcast_S128x128_S1x1x128x128_2_3 mask))
    (mulf (extf .f32 (truncf .bf16 (Host.dotGeneral dot_S2x128x32x64_S2x128x32x64_S2x32x128x128_3_3_1_1_02_02 none
      (shapeCast _ (truncf .bf16 (Host.dotGeneral dot_S2x128x512_S512x2048_S2x128x2048_2_0_01_1_n_n none x wq) bitsLt_bf16_f32) shapeCasts_S2x128x2048_S2x128x32x64) k)
      bitsLt_bf16_f32) bitsLt_bf16_f32) (broadcastInDim S2x32x128x128 ![] bcast_S_S2x32x128x128 (constant S_ .f32 0x3E000000#32)))
    (broadcastInDim S2x32x128x128 ![] bcast_S_S2x32x128x128 (id (constant S_ .f32 0xCE6E6B28#32)))

/-- The exponentials of the scores less their row's greatest. -/
def expo (s : FVec F S2x32x128x128 .f32) : FVec F S2x32x128x128 .f32 :=
  Host.exp (subf s (broadcastInDim S2x32x128x128 ![0, 1, 2, 3] bcast_S2x32x128x1_S2x32x128x128_0_1_2_3
    (broadcastInDim S2x32x128x1 ![0, 1, 2] bcast_S2x32x128_S2x32x128x1_0_1_2
      (Host.reduce FloatOps.maximumf s (constant S_ .f32 0xFF800000#32) reducesTo_S2x32x128x128_S2x32x128_d3 h_S_))))

/-- The weights: each exponential over its row's sum. -/
def weights (e : FVec F S2x32x128x128 .f32) : FVec F S2x32x128x128 .f32 :=
  select (broadcastInDim S2x32x128x128 ![0, 1, 2, 3] bcast_S1x1x128x1_S2x32x128x128_0_1_2_3 keep)
    (Host.divf e (broadcastInDim S2x32x128x128 ![0, 1, 2, 3] bcast_S2x32x128x1_S2x32x128x128_0_1_2_3
      (select (broadcastInDim S2x32x128x1 ![0, 1, 2, 3] bcast_S1x1x128x1_S2x32x128x1_0_1_2_3 keep)
        (broadcastInDim S2x32x128x1 ![0, 1, 2] bcast_S2x32x128_S2x32x128x1_0_1_2
          (Host.reduceAdd e (constant S_ .f32 0x00000000#32) reducesTo_S2x32x128x128_S2x32x128_d3 h_S_))
        (broadcastInDim S2x32x128x1 ![] bcast_S_S2x32x128x1 (id (constant S_ .f32 0x3F800000#32))))))
    (broadcastInDim S2x32x128x128 ![] bcast_S_S2x32x128x128 (id (constant S_ .f32 0x00000000#32)))

/-- The result, from the weights, the values and the output weights. -/
def result (w : FVec F S2x32x128x128 .f32) (v : FVec F S2x128x32x64 .bf16) (wo : FVec F S2048x512 .bf16) : FVec F S2x128x512 .bf16 :=
  truncf .bf16 (Host.dotGeneral dot_S2x128x2048_S2048x512_S2x128x512_2_0_01_1_n_n none
    (shapeCast _ (transpose S2x128x32x64 [0, 3, 1, 2] (Host.dotGeneral dot_S2x128x32x64_S2x32x128x128_S2x32x64x128_1_3_3_2_02_01 none
      (extf .f32 v bitsLt_bf16_f32) w) transposes_S2x32x64x128_S2x128x32x64_0_3_1_2) shapeCasts_S2x128x32x64_S2x128x2048) (extf .f32 wo bitsLt_bf16_f32)) bitsLt_bf16_f32

/-- The reference's result is these steps, one after the other. -/
theorem res_steps (m : (ℓ : Loc nD τ sig) → Buf (Elt F) ℓ) (c : Dev nD) :
    Value.res_main_v40 m c = result (weights (expo (scores (m (c, main_arg0)) (m (c, main_arg1)) (m (c, main_arg2))))) (m (c, main_arg3)) (m (c, main_arg4)) := rfl

/-! ## At exact values -/

/-- A distance below 128, either way round, is within the mask. -/
theorem near : ∀ n : Fin 128, IntOp.cmpi .sle (IntOp.absi (BitVec.ofNat 32 n.val)) 128#32 = 1#1
    ∧ IntOp.cmpi .sle (IntOp.absi (-BitVec.ofNat 32 n.val)) 128#32 = 1#1 := by decide

/-- No key is masked. -/
theorem mask_true (i j : Fin 128) : mask (ix2 i j) = 1#1 := by
  pointwise [mask]
  rcases le_total j.val i.val with h | h
  · have e : IntOp.subi (BitVec.ofNat 32 i.val) (BitVec.ofNat 32 j.val) = BitVec.ofNat 32 (i.val - j.val) := by
      apply BitVec.eq_of_toNat_eq; simp only [IntOp.subi, BitVec.toNat_sub, BitVec.toNat_ofNat]; omega
    rw [e]; exact (near ⟨i.val - j.val, by omega⟩).1
  · have e : IntOp.subi (BitVec.ofNat 32 i.val) (BitVec.ofNat 32 j.val) = -BitVec.ofNat 32 (j.val - i.val) := by
      apply BitVec.eq_of_toNat_eq; simp only [IntOp.subi, BitVec.toNat_sub, BitVec.toNat_neg, BitVec.toNat_ofNat]; omega
    rw [e]; exact (near ⟨j.val - i.val, by omega⟩).2

/-- Every query has a key to attend to. -/
theorem keep_true (i : Fin 128) : keep (ix4 0 0 i 0) = 1#1 := by
  pointwise [keep]
  simp only [mask_true]
  decide

/-- The query of one head: its row of the inputs against the head's columns of the query weights. -/
def query (x : FVec Ideal S2x128x512 .bf16) (wq : FVec Ideal S512x2048 .bf16) (b : Fin 2) (h : Fin 32) (i : Fin 128) (d : Fin 64) : EReal :=
  ∑ m : Fin 512, x (ix3 b i m) * wq (ix2 m (⟨h.val * 64 + d.val, by omega⟩ : Fin 2048))

/-- One score. -/
theorem scores_apply (x : FVec Ideal S2x128x512 .bf16) (wq : FVec Ideal S512x2048 .bf16) (k : FVec Ideal S2x128x32x64 .bf16)
    (b : Fin 2) (h : Fin 32) (i j : Fin 128) :
    scores x wq k (ix4 b h i j) = score (query x wq b h i) (fun d => k (ix4 b j h d)) := by
  pointwise [scores]
  rw [mask_true]
  rfl

/-- One exponential. -/
theorem expo_apply (s : FVec Ideal S2x32x128x128 .f32) (b : Fin 2) (h : Fin 32) (i j : Fin 128) :
    expo s (ix4 b h i j) = Ideal.exp (s (ix4 b h i j)
      - Finset.fold max (Ideal.ofBits .f32 0xFF800000#32) (fun x : Fin 128 => (s (ix4 b h i x) : EReal)) Finset.univ) := by
  pointwise [expo]

/-- One weight. -/
theorem weights_apply (e : FVec Ideal S2x32x128x128 .f32) (b : Fin 2) (h : Fin 32) (i j : Fin 128) :
    weights e (ix4 b h i j) = Ideal.div (e (ix4 b h i j)) (∑ x : Fin 128, (e (ix4 b h i x) : EReal)) := by
  pointwise [weights]
  rw [keep_true]
  rfl

/-- One entry of the result, from the weights. -/
theorem result_apply (w : FVec Ideal S2x32x128x128 .f32) (v : FVec Ideal S2x128x32x64 .bf16) (wo : FVec Ideal S2048x512 .bf16)
    (b : Fin 2) (i : Fin 128) (n : Fin 512) :
    result w v wo (ix3 b i n) = ∑ t : Fin 2048, (∑ j : Fin 128, v (ix4 b j (⟨t.val / 64, by omega⟩ : Fin 32) (⟨t.val % 64, by omega⟩ : Fin 64))
      * w (ix4 b (⟨t.val / 64, by omega⟩ : Fin 32) i j)) * wo (ix2 t n) := by
  pointwise [result]

/-- One entry of the reference's result. -/
theorem reference_apply (x : FVec Ideal S2x128x512 .bf16) (wq : FVec Ideal S512x2048 .bf16) (k v : FVec Ideal S2x128x32x64 .bf16)
    (wo : FVec Ideal S2048x512 .bf16) (b : Fin 2) (i : Fin 128) (n : Fin 512) :
    result (weights (expo (scores x wq k))) v wo (ix3 b i n)
      = ∑ t : Fin 2048, attend (query x wq b ⟨t.val / 64, by omega⟩ i) (fun j d => k (ix4 b j (⟨t.val / 64, by omega⟩ : Fin 32) d))
          (fun j => v (ix4 b j (⟨t.val / 64, by omega⟩ : Fin 32) (⟨t.val % 64, by omega⟩ : Fin 64))) * wo (ix2 t n) := by
  rw [result_apply]
  simp only [weights_apply, expo_apply, scores_apply]
  rfl

end Cert.ReferenceIdealProof
end
-- ==== Proof.Equation.lean ====
/-
The equation: the sum of the eight devices' partial products is the reference's result, where the inputs, the query weights and the
keys are real.
-/
module

public import proofs.«01_k».proof.Proof.Host
public import proofs.«01_k».proof.Proof.Total
public import proofs.«01_k».proof.Proof.Reference
public import Idealize.ShloMosaic.Lib.Layout

@[expose] public section

set_option maxRecDepth 16384

noncomputable section

namespace Cert.KernelIdealProof

open Cert.KernelIdeal Cert.KernelIdeal.Gen Cert.Attention
open Cert.ReferenceIdealProof (query result weights expo scores reference_apply)
open Idealize.ShloMosaic

/-- All thirty-two heads' keys or values. -/
abbrev Heads : Type := FVec Ideal ⟨4, ![2, 128, 32, 64]⟩ .bf16

/-- Device `c`'s four heads of the thirty-two. -/
abbrev mine (c : Dev nD) (k : Heads) : FVec Ideal S2x128x4x64 .bf16 := Layout.block ⟨4, ![2, 128, 4, 64]⟩ ⟨4, ![2, 128, 32, 64]⟩ 2 8 c k

/-- Column `t` of device `c`'s share, among all 2048. -/
def colAt (c : Dev nD) (t : Fin 256) : Fin 2048 := ⟨t.val + 256 * c.val, by have : c.val < 8 := c.isLt; omega⟩

/-- The head a column is of, and its place in the head. -/
abbrev headOf (t : Fin 2048) : Fin 32 := ⟨t.val / 64, by omega⟩
abbrev entryOf (t : Fin 2048) : Fin 64 := ⟨t.val % 64, by omega⟩

/-- The device's query weights at an entry of the whole. -/
theorem share_wq (c : Dev nD) (wq : FVec Ideal S512x2048 .bf16) (m : Fin 512) (t : Fin 256) :
    extractStridedSlice S512x256 ![0, 256 * c.val] wq (share_cols c) (ix2 m t) = wq (ix2 m (colAt c t)) := by
  pointwise
  congr 2
  apply Fin.ext; simp only [colAt]; omega

/-- The device's output weights at an entry of the whole. -/
theorem share_wo (c : Dev nD) (wo : FVec Ideal S2048x512 .bf16) (t : Fin 256) (n : Fin 512) :
    extractStridedSlice S256x512 ![256 * c.val, 0] wo (share_rows c) (ix2 t n) = wo (ix2 (colAt c t) n) := by
  pointwise
  congr 2
  apply Fin.ext; simp only [colAt]; omega

/-- The device's keys or values, heads side by side, at an entry of all the heads. -/
theorem share_heads (c : Dev nD) (k : Heads) (b : Fin 2) (j : Fin 128) (t : Fin 256) :
    shapeCast S2x128x256 (mine c k) shapeCasts_S2x128x4x64_S2x128x256 (ix3 b j t) = k (ix4 b j (headOf (colAt c t)) (entryOf (colAt c t))) := by
  generalize e : mine c k = K
  pointwise
  subst e
  unfold mine
  rw [Layout.block_apply]
  congr 1
  funext a
  apply Fin.ext
  rw [Layout.Tiles.idx_val]
  fin_cases a <;> simp [colAt, ix4] <;> omega

/-- Device `c`'s partial product: its columns' part of the product with the output weights. -/
theorem part_share (c : Dev nD) (x : FVec Ideal S2x128x512 .bf16) (wq : FVec Ideal S512x2048 .bf16) (k v : Heads)
    (wo : FVec Ideal S2048x512 .bf16) (b : Fin 2) (i : Fin 128) (n : Fin 512) :
    part x (extractStridedSlice S512x256 ![0, 256 * c.val] wq (share_cols c))
        (shapeCast S2x128x256 (mine c k) shapeCasts_S2x128x4x64_S2x128x256) (shapeCast S2x128x256 (mine c v) shapeCasts_S2x128x4x64_S2x128x256)
        (extractStridedSlice S256x512 ![256 * c.val, 0] wo (share_rows c)) (ix2 (rowAt b i) n)
      = ∑ t : Fin 256, weigh (query x wq b (headOf (colAt c t)) i) (fun j d => k (ix4 b j (headOf (colAt c t)) d))
          (fun j => v (ix4 b j (headOf (colAt c t)) (entryOf (colAt c t)))) * wo (ix2 (colAt c t) n) := by
  rw [part_apply]
  refine Finset.sum_congr rfl fun t _ => ?_
  simp only [share_wq, share_wo, share_heads]
  have hh : ∀ d, headOf (colAt c (inHead t d)) = headOf (colAt c t) := fun d => by
    apply Fin.ext; simp only [colAt, inHead]; omega
  have he : ∀ d, entryOf (colAt c (inHead t d)) = d := fun d => by
    apply Fin.ext; simp only [colAt, inHead]; omega
  have hc : ∀ d : Fin 64, colAt c (inHead t d) = ⟨(headOf (colAt c t)).val * 64 + d.val, by omega⟩ := fun d => by
    apply Fin.ext; simp only [colAt, inHead]; omega
  simp only [hh, he]
  simp only [hc]
  rfl

/-- A sum over the devices and each device's columns is the sum over all columns. -/
theorem sum_shares (f : Fin 2048 → EReal) : ∑ c : Dev nD, ∑ t : Fin 256, f (colAt c t) = ∑ t : Fin 2048, f t := by
  have h := (finProdFinEquiv (m := 8) (n := 256)).sum_comp (fun t : Fin (8 * 256) => f t)
  rw [Fintype.sum_prod_type] at h
  exact h

variable {x : FVec Ideal S2x128x512 .bf16} {wq : FVec Ideal S512x2048 .bf16} {k : Heads}

/-- The eight partial products add up to the reference's result. -/
theorem total_eq (hx : ∀ i, IsReal (x i)) (hq : ∀ i, IsReal (wq i)) (hk : ∀ c i, IsReal (mine c k i)) (v : Heads)
    (wo : FVec Ideal S2048x512 .bf16) (P : Dev nD → FVec Ideal S256x512 .f32)
    (hP : ∀ c, P c = part x (extractStridedSlice S512x256 ![0, 256 * c.val] wq (share_cols c))
        (shapeCast S2x128x256 (mine c k) shapeCasts_S2x128x4x64_S2x128x256) (shapeCast S2x128x256 (mine c v) shapeCasts_S2x128x4x64_S2x128x256)
        (extractStridedSlice S256x512 ![256 * c.val, 0] wo (share_rows c))) (c : Dev nD) :
    out P c = result (weights (expo (scores x wq k))) v wo := by
  have hk' : ∀ b j (t : Fin 2048) d, IsReal (k (ix4 b j (headOf t) d)) := fun b j t d => by
    obtain ⟨c, u, rfl⟩ : ∃ c u, t = colAt c u :=
      ⟨⟨t.val / 256, by show t.val / 256 < 8; omega⟩, ⟨t.val % 256, by omega⟩, by apply Fin.ext; simp only [colAt]; omega⟩
    have r : IsReal (shapeCast S2x128x256 (mine c k) shapeCasts_S2x128x4x64_S2x128x256 (ix3 b j (inHead u d))) := hk c _
    rw [share_heads] at r
    have hh : headOf (colAt c (inHead u d)) = headOf (colAt c u) := by apply Fin.ext; simp only [colAt, inHead]; omega
    have he : entryOf (colAt c (inHead u d)) = d := by apply Fin.ext; simp only [colAt, inHead]; omega
    rwa [hh, he] at r
  funext idx
  idx_vars idx
  rw [out_apply, reference_apply, ← sum_shares]
  refine Finset.sum_congr rfl fun d _ => ?_
  rw [hP, part_share]
  refine Finset.sum_congr rfl fun t _ => ?_
  rw [weigh_eq_attend]
  · exact fun d => IsReal.sum fun m => (hx _).mul (hq _)
  · exact fun j d => hk' _ _ _ _

end Cert.KernelIdealProof
end
-- ==== Proof.SameText.lean ====
/-
The program and its idealization have one text, so at the machine's formats the labels of the one run as those of the other.
-/
module

public import proofs.«01_k».proof.Defs
public import proofs.«01_k».proof.Proof.Gen.Kernel
public import proofs.«01_k».proof.Proof.Gen.KernelIdeal

@[expose] public section

namespace Cert.Proof

open Idealize.ShloMosaic

theorem kernel_labels : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl

theorem kernel_defs : Cert.Kernel.defs (F := Bits) = Cert.KernelIdeal.defs (F := Bits) :=
  congrArg (Pipeline.defs (Cert.KernelIdeal.pcfgs (F := Bits))) kernel_labels

theorem kernel_main : Cert.Kernel.main (F := Bits) = Cert.KernelIdeal.main (F := Bits) := rfl

end Cert.Proof
-- ==== Proof.lean ====
/-
The proof of `Cert.Claim`. The run of the program on the eight devices is `Cert.KernelIdealProof.run_main`, for any float
values: at the machine's formats it is the first frame, at the extended reals the second and the kernel's side of the
value claim. The reference has no semaphore, and its run is its operations one by one.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Finite
public import proofs.«01_k».proof.Proof.Equation
public import proofs.«01_k».proof.Proof.SameText
public import Idealize.ShloMosaic.Adequacy
public import Idealize.ShloMosaic.Init

@[expose] public section

noncomputable section

namespace Cert.Proof

open Idealize.ShloMosaic Idealize.SL.Sem
open Cert.KernelIdealProof
open Idealize.ShloMosaic.TcCoe

/-- The side conditions of the precondition's operations, on the kernel's blocks and on the reference's arrays. -/
theorem facts_kernel : Cert.Pre_finite_KernelIdeal.Facts := by constructor <;> decide
theorem facts_reference : Cert.Pre_finite_ReferenceIdeal.Facts := by constructor <;> decide

/-- The run with the result dropped. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread _ Cert.KernelIdeal.τ).loc Cert.KernelIdeal.main_arg0) = m ((c.tc : Thread _ Cert.KernelIdeal.τ).loc Cert.KernelIdeal.main_arg0)
        ∧ r.2.mem ((c.tc : Thread _ Cert.KernelIdeal.τ).loc Cert.KernelIdeal.main_arg1) = m ((c.tc : Thread _ Cert.KernelIdeal.τ).loc Cert.KernelIdeal.main_arg1)
        ∧ r.2.mem ((c.tc : Thread _ Cert.KernelIdeal.τ).loc Cert.KernelIdeal.main_arg2) = m ((c.tc : Thread _ Cert.KernelIdeal.τ).loc Cert.KernelIdeal.main_arg2)
        ∧ r.2.mem ((c.tc : Thread _ Cert.KernelIdeal.τ).loc Cert.KernelIdeal.main_arg3) = m ((c.tc : Thread _ Cert.KernelIdeal.τ).loc Cert.KernelIdeal.main_arg3)
        ∧ r.2.mem ((c.tc : Thread _ Cert.KernelIdeal.τ).loc Cert.KernelIdeal.main_arg4) = m ((c.tc : Thread _ Cert.KernelIdeal.τ).loc Cert.KernelIdeal.main_arg4))
      ∧ r.2.sem = fun _ => 0) :=
  (θ_run Cert.KernelIdeal.defs _ _).mono (fun _ h => ⟨fun c => (h.1 c).1, h.2⟩) (run_main m ρ)

/-- The kernel at the machine's formats: the two programs have one text. -/
theorem frame_kernel : Cert.quiescent_Kernel := fun m ρ _ => by
  have h := frame_any (F := Bits) m ρ
  rw [← kernel_defs, ← kernel_main] at h
  exact h

/-- The kernel at the extended reals. -/
theorem frame_ideal : Cert.quiescent_KernelIdeal := fun m ρ _ => frame_any (F := Ideal) m ρ

/-- The reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's, on every device. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (pre : Cert.Pre_KernelIdeal_finite_KernelIdeal (hPre_finite_KernelIdeal := facts_kernel) m)
    (h0 : ∀ c, m (c, Cert.KernelIdeal.main_arg0) = m' (0, Cert.ReferenceIdeal.main_arg0))
    (h1 : ∀ c, m (c, Cert.KernelIdeal.main_arg1) = m' (0, Cert.ReferenceIdeal.main_arg1))
    (h2 : ∀ c, m (c, Cert.KernelIdeal.main_arg2) = mine c (m' (0, Cert.ReferenceIdeal.main_arg2)))
    (h3 : ∀ c, m (c, Cert.KernelIdeal.main_arg3) = mine c (m' (0, Cert.ReferenceIdeal.main_arg3)))
    (h4 : ∀ c, m (c, Cert.KernelIdeal.main_arg4) = m' (0, Cert.ReferenceIdeal.main_arg4)) (c : Dev Cert.KernelIdeal.nD) :
    out (partOf (given m)) c = Cert.ReferenceIdeal.Value.res_main_v40 m' 0 := by
  have real := fun c => @Cert.Attention.finite_real facts_kernel _ _ _ _ _ (pre c)
  have hx := (real 0).1
  have hq := (real 0).2.1
  have hk := fun c => (real c).2.2
  rw [Cert.ReferenceIdealProof.res_steps]
  refine total_eq (fun i => ?_) (fun i => ?_) (fun c i => ?_) _ _ _ (fun c => ?_) c
  · rw [← h0 0]; exact hx i
  · rw [← h1 0]; exact hq i
  · rw [← h2 c]; exact hk c i
  · unfold partOf given
    rw [given_x, given_wq, given_k, given_v, given_wo, h0, h1, h2, h3, h4]

/-- The two programs compute the same, where the inputs, the query weights and the keys are real. -/
theorem algebraic : Cert.algebraic_KernelIdeal_ReferenceIdeal_pre_finite_KernelIdeal (hPre_finite_KernelIdeal := facts_kernel) := by
  intro m g m' g' pre same
  have eq := result_eq m m' pre (fun c => (same c).1) (fun c => (same c).2.1) (fun c => (same c).2.2.1) (fun c => (same c).2.2.2.1)
    (fun c => (same c).2.2.2.2)
  refine ⟨Cert.ReferenceIdeal.Value.res_main_v40 m' 0, ?_, ?_⟩
  · exact (θ_run Cert.KernelIdeal.defs _ _).mono (fun _ h c => ⟨(h.1 c).2.trans (eq c), (h.1 c).1⟩) (run_main (F := Ideal) m g)
  · exact (θ_run Cert.ReferenceIdeal.defs _ _).mono (fun _ h => h 0) (Cert.ReferenceIdeal.Value.run (F := Ideal) m' g')

/-- The claim. -/
theorem claim : Cert.Claim :=
  ⟨Cert.Kernel.Gen.facts, Cert.KernelIdeal.Gen.facts, Cert.ReferenceIdeal.Gen.facts, facts_kernel, facts_reference,
    frame_kernel, frame_ideal, fun m ρ _ => frame_ideal m ρ trivial, frame_reference, fun m ρ _ => frame_reference m ρ trivial,
    trivial, algebraic⟩

end Cert.Proof

end
